-- ==== Defs.lean ====
def Pre_Kernel [hPre_ids_in_tables : Cert.Pre_ids_in_tables.Facts] (m : (ℓ : Loc Cert.Kernel.nD Cert.Kernel.τ Cert.Kernel.sig) → Buf (Elt Bits) ℓ) : Prop :=
  ∀ c : Dev Cert.Kernel.nD,
    (Cert.Pre_ids_in_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_ids_in_tables : Cert.Pre_ids_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_ids_in_tables : Cert.Pre_ids_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_ids_in_tables : Cert.Pre_ids_in_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] [hPre_ids_in_tables : Cert.Pre_ids_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_in_tables : Cert.Pre_ids_in_tables.Facts),
    quiescent_Kernel (hKernel := hKernel) (hPre_ids_in_tables := hPre_ids_in_tables)
    ∧ quiescent_KernelIdeal (hKernelIdeal := hKernelIdeal) (hPre_ids_in_tables := hPre_ids_in_tables)
    ∧ quiescent_ReferenceIdeal (hReferenceIdeal := hReferenceIdeal) (hPre_ids_in_tables := hPre_ids_in_tables)
    ∧ preserves_Kernel_KernelIdeal
    ∧ algebraic_KernelIdeal_ReferenceIdeal (hKernelIdeal := hKernelIdeal) (hReferenceIdeal := hReferenceIdeal) (hPre_ids_in_tables := hPre_ids_in_tables)
-- ==== Pre_ids_in_tables.lean ====
abbrev S16384 : Shape := ⟨1, ![16384]⟩
abbrev S100000x64 : Shape := ⟨2, ![100000, 64]⟩
abbrev S100000x128 : Shape := ⟨2, ![100000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S100000x64 .f32) (main_arg3 : FVec F S100000x64 .f32) (main_arg4 : FVec F S100000x128 .f32) (main_arg5 : FVec F S100000x128 .f32) (main_arg6 : FVec F S256x128 .f32) (main_arg7 : FVec F S128 .f32) (main_arg8 : FVec F S128x64 .f32) (main_arg9 : FVec F S64 .f32) (main_arg10 : FVec F S128x1 .f32) (main_arg11 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 100000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S100000x64 : Shape := ⟨2, ![100000, 64]⟩
abbrev S100000x128 : Shape := ⟨2, ![100000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩
abbrev S16384x1 : Shape := ⟨2, ![16384, 1]⟩
abbrev S50000x128 : Shape := ⟨2, ![50000, 128]⟩
abbrev S16384x128 : Shape := ⟨2, ![16384, 128]⟩
abbrev S512 : Shape := ⟨1, ![512]⟩
abbrev S2x64x128 : Shape := ⟨3, ![2, 64, 128]⟩
abbrev S2 : Shape := ⟨1, ![2]⟩
abbrev S1x64x128 : Shape := ⟨3, ![1, 64, 128]⟩
abbrev S64x128 : Shape := ⟨2, ![64, 128]⟩
abbrev S128x128 : Shape := ⟨2, ![128, 128]⟩
abbrev S64x1 : Shape := ⟨2, ![64, 1]⟩
abbrev S1x64 : Shape := ⟨2, ![1, 64]⟩
abbrev S1x128 : Shape := ⟨2, ![1, 128]⟩
abbrev S1x1 : Shape := ⟨2, ![1, 1]⟩
abbrev S2048x128 : Shape := ⟨2, ![2048, 128]⟩
abbrev S2048x1 : Shape := ⟨2, ![2048, 1]⟩
abbrev S2048x64 : Shape := ⟨2, ![2048, 64]⟩
abbrev S2048 : Shape := ⟨1, ![2048]⟩

abbrev nBuf : Table → Nat
  | .hbm => 43
  | .local .tc .vmem => 22
  | .local .scVector .vmem => 8
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x64, .f32⟩
  | .hbm, ⟨3, _⟩ => ⟨S100000x64, .f32⟩
  | .hbm, ⟨4, _⟩ => ⟨S100000x128, .f32⟩
  | .hbm, ⟨5, _⟩ => ⟨S100000x128, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S128x1, .f32⟩
  | .hbm, ⟨11, _⟩ => ⟨S1, .f32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S50000x128, .f32⟩
  | .hbm, ⟨27, _⟩ => ⟨S50000x128, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S16384x128, .f32⟩
  | .hbm, ⟨32, _⟩ => ⟨S128x128, .f32⟩
  | .hbm, ⟨33, _⟩ => ⟨S128x128, .f32⟩
  | .hbm, ⟨34, _⟩ => ⟨S64x1, .f32⟩
  | .hbm, ⟨35, _⟩ => ⟨S1x64, .f32⟩
  | .hbm, ⟨36, _⟩ => ⟨S64x1, .f32⟩
  | .hbm, ⟨37, _⟩ => ⟨S1x64, .f32⟩
  | .hbm, ⟨38, _⟩ => ⟨S1x128, .f32⟩
  | .hbm, ⟨39, _⟩ => ⟨S1x64, .f32⟩
  | .hbm, ⟨40, _⟩ => ⟨S1x1, .f32⟩
  | .hbm, ⟨41, _⟩ => ⟨S16384x1, .f32⟩
  | .hbm, ⟨42, _⟩ => ⟨S16384, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S2048x128, .f32⟩
  | .local .tc .vmem, ⟨5, _⟩ => ⟨S2048x128, .f32⟩
  | .local .tc .vmem, ⟨6, _⟩ => ⟨S2048x128, .f32⟩
  | .local .tc .vmem, ⟨7, _⟩ => ⟨S2048x128, .f32⟩
  | .local .tc .vmem, ⟨8, _⟩ => ⟨S2048x1, .i32⟩
  | .local .tc .vmem, ⟨9, _⟩ => ⟨S2048x1, .i32⟩
  | .local .tc .vmem, ⟨10, _⟩ => ⟨S2048x1, .i32⟩
  | .local .tc .vmem, ⟨11, _⟩ => ⟨S2048x1, .i32⟩
  | .local .tc .vmem, ⟨12, _⟩ => ⟨S128x128, .f32⟩
  | .local .tc .vmem, ⟨13, _⟩ => ⟨S128x128, .f32⟩
  | .local .tc .vmem, ⟨14, _⟩ => ⟨S1x128, .f32⟩
  | .local .tc .vmem, ⟨15, _⟩ => ⟨S128x64, .f32⟩
  | .local .tc .vmem, ⟨16, _⟩ => ⟨S1x64, .f32⟩
  | .local .tc .vmem, ⟨17, _⟩ => ⟨S1x64, .f32⟩
  | .local .tc .vmem, ⟨18, _⟩ => ⟨S1x64, .f32⟩
  | .local .tc .vmem, ⟨19, _⟩ => ⟨S1x1, .f32⟩
  | .local .tc .vmem, ⟨20, _⟩ => ⟨S2048x1, .f32⟩
  | .local .tc .vmem, ⟨21, _⟩ => ⟨S2048x1, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S512, .i32⟩
  | .local .scVector .vmem, ⟨4, _⟩ => ⟨S2x64x128, .f32⟩
  | .local .scVector .vmem, ⟨5, _⟩ => ⟨S2x64x128, .f32⟩
  | .local .scVector .vmem, ⟨6, _⟩ => ⟨S2x64x128, .f32⟩
  | .local .scVector .vmem, ⟨7, _⟩ => ⟨S2x64x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v12_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v10_scv : Ref sig .scVector := ⟨.hbm, 26, rfl⟩
abbrev main_v11_scv : Ref sig .scVector := ⟨.hbm, 27, rfl⟩
abbrev main_arg4_scv : Ref sig .scVector := ⟨.hbm, 4, rfl⟩
abbrev main_arg5_scv : Ref sig .scVector := ⟨.hbm, 5, rfl⟩
abbrev main_arg0_scv : Ref sig .scVector := ⟨.hbm, 0, rfl⟩
abbrev main_arg1_scv : Ref sig .scVector := ⟨.hbm, 1, rfl⟩
abbrev main_v1_scv : Ref sig .scVector := ⟨.hbm, 14, rfl⟩
abbrev main_v3_scv : Ref sig .scVector := ⟨.hbm, 17, rfl⟩
abbrev main_v12_0_scv : Ref sig .scVector := ⟨.hbm, 28, rfl⟩
abbrev main_v12_1_scv : Ref sig .scVector := ⟨.hbm, 29, rfl⟩
abbrev main_v12_2_scv : Ref sig .scVector := ⟨.hbm, 30, rfl⟩
abbrev main_v12_3_scv : Ref sig .scVector := ⟨.hbm, 31, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg13_0 : Ref sig .tc := ⟨.vmem, 19, rfl⟩
abbrev cc1_stg14_0 : Ref sig .tc := ⟨.vmem, 20, rfl⟩
abbrev cc1_stg14_1 : Ref sig .tc := ⟨.vmem, 21, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem14_0 : DmaSem sig := 28
abbrev cc1_sem14_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_53 : BitVec 32 := 0#32
  let c4_i32 : BitVec 32 := 4#32
  let v51 : BitVec 32 := Scalar.addi c0_i32_53 c4_i32
  let c1_i32_54 : BitVec 32 := 1#32
  ⟨c0_i32_53, v51, c1_i32_54⟩
def k0_off2 (k0_t1 : Fin k0_t1_loop.trips) (c0_i32_122 : BitVec 32) : Fin 1 → Nat :=
  let c0_i32_121 : BitVec 32 := 0#32
  let c0_i32_53 : BitVec 32 := 0#32
  let c1_i32_54 : BitVec 32 := 1#32
  let arg24 : BitVec 32 := Scf.iv c0_i32_53 c1_i32_54 k0_t1
  let c2_i32_120 : BitVec 32 := 2#32
  let v118 : BitVec 32 := Scalar.muli arg24 c2_i32_120
  let v119 : BitVec 32 := Scalar.addi c0_i32_121 v118
  let v120 : BitVec 32 := Scalar.addi v119 c0_i32_122
  let c64_i32_123 : BitVec 32 := 64#32
  let v121 : BitVec 32 := Scalar.muli v120 c64_i32_123
  ![v121.toNat]
def k0_off3 (i : grid0.Coords) (k0_t1 : Fin k0_t1_loop.trips) (c0_i32_122 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_121 : BitVec 32 := 0#32
  let c0_i32_53 : BitVec 32 := 0#32
  let c1_i32_54 : BitVec 32 := 1#32
  let arg24 : BitVec 32 := Scf.iv c0_i32_53 c1_i32_54 k0_t1
  let c2_i32_120 : BitVec 32 := 2#32
  let v118 : BitVec 32 := Scalar.muli arg24 c2_i32_120
  let v119 : BitVec 32 := Scalar.addi c0_i32_121 v118
  let v120 : BitVec 32 := Scalar.addi v119 c0_i32_122
  let c64_i32_148 : BitVec 32 := 64#32
  let v146 : BitVec 32 := Scalar.muli v120 c64_i32_148
  let v147 : BitVec 32 := Scalar.addi v2 v146
  let c0_i32_153 : BitVec 32 := 0#32
  ![v147.toNat, 0]
def k0_cond1 (k0_t1 : Fin k0_t1_loop.trips) : BitVec 1 :=
  let c0_i32_121 : BitVec 32 := 0#32
  let c0_i32_53 : BitVec 32 := 0#32
  let c1_i32_54 : BitVec 32 := 1#32
  let arg24 : BitVec 32 := Scf.iv c0_i32_53 c1_i32_54 k0_t1
  let c2_i32_120 : BitVec 32 := 2#32
  let v118 : BitVec 32 := Scalar.muli arg24 c2_i32_120
  let v119 : BitVec 32 := Scalar.addi c0_i32_121 v118
  let c0_i32_122 : BitVec 32 := 0#32
  let v120 : BitVec 32 := Scalar.addi v119 c0_i32_122
  let c2_i32_181 : BitVec 32 := 2#32
  let v180 : BitVec 32 := Scalar.addi v120 c2_i32_181
  let c8_i32 : BitVec 32 := 8#32
  let v181 : BitVec 1 := Scalar.cmpi .slt v180 c8_i32
  let v182 : BitVec 32 := Scalar.extui v181
  let c0_i32_182 : BitVec 32 := 0#32
  let v183 : BitVec 1 := Scalar.cmpi .ne v182 c0_i32_182
  v183

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_121 : BitVec 32 := 0#32
  let c0_i32_53 : BitVec 32 := 0#32
  let c1_i32_54 : BitVec 32 := 1#32
  let arg24 : BitVec 32 := Scf.iv c0_i32_53 c1_i32_54 k0_t1
  let c2_i32_120 : BitVec 32 := 2#32
  let v118 : BitVec 32 := Scalar.muli arg24 c2_i32_120
  let v119 : BitVec 32 := Scalar.addi c0_i32_121 v118
  let c0_i32_122 : BitVec 32 := 0#32
  let v120 : BitVec 32 := Scalar.addi v119 c0_i32_122
  let c64_i32_245 : BitVec 32 := 64#32
  let v248 : BitVec 32 := Scalar.muli v120 c64_i32_245
  let v249 : BitVec 32 := Scalar.addi v2 v248
  let c0_i32_250 : BitVec 32 := 0#32
  ![v249.toNat, 0]
def k0_off5 (k0_t1 : Fin k0_t1_loop.trips) : Fin 1 → Nat :=
  let c0_i32_121 : BitVec 32 := 0#32
  let c0_i32_53 : BitVec 32 := 0#32
  let c1_i32_54 : BitVec 32 := 1#32
  let arg24 : BitVec 32 := Scf.iv c0_i32_53 c1_i32_54 k0_t1
  let c2_i32_120 : BitVec 32 := 2#32
  let v118 : BitVec 32 := Scalar.muli arg24 c2_i32_120
  let v119 : BitVec 32 := Scalar.addi c0_i32_121 v118
  let c0_i32_122 : BitVec 32 := 0#32
  let v120 : BitVec 32 := Scalar.addi v119 c0_i32_122
  let c2_i32_181 : BitVec 32 := 2#32
  let v180 : BitVec 32 := Scalar.addi v120 c2_i32_181
  let c64_i32_278 : BitVec 32 := 64#32
  let v282 : BitVec 32 := Scalar.muli v180 c64_i32_278
  ![v282.toNat]
def k0_cond2 (k0_t1 : Fin k0_t1_loop.trips) : BitVec 1 :=
  let c0_i32_121 : BitVec 32 := 0#32
  let c0_i32_53 : BitVec 32 := 0#32
  let c1_i32_54 : BitVec 32 := 1#32
  let arg24 : BitVec 32 := Scf.iv c0_i32_53 c1_i32_54 k0_t1
  let c2_i32_120 : BitVec 32 := 2#32
  let v118 : BitVec 32 := Scalar.muli arg24 c2_i32_120
  let v119 : BitVec 32 := Scalar.addi c0_i32_121 v118
  let c1_i32_183 : BitVec 32 := 1#32
  let v184 : BitVec 32 := Scalar.addi v119 c1_i32_183
  let c2_i32_242 : BitVec 32 := 2#32
  let v244 : BitVec 32 := Scalar.addi v184 c2_i32_242
  let c8_i32_243 : BitVec 32 := 8#32
  let v245 : BitVec 1 := Scalar.cmpi .slt v244 c8_i32_243
  let v246 : BitVec 32 := Scalar.extui v245
  let c0_i32_244 : BitVec 32 := 0#32
  let v247 : BitVec 1 := Scalar.cmpi .ne v246 c0_i32_244
  v247

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_121 : BitVec 32 := 0#32
  let c0_i32_53 : BitVec 32 := 0#32
  let c1_i32_54 : BitVec 32 := 1#32
  let arg24 : BitVec 32 := Scf.iv c0_i32_53 c1_i32_54 k0_t1
  let c2_i32_120 : BitVec 32 := 2#32
  let v118 : BitVec 32 := Scalar.muli arg24 c2_i32_120
  let v119 : BitVec 32 := Scalar.addi c0_i32_121 v118
  let c1_i32_183 : BitVec 32 := 1#32
  let v184 : BitVec 32 := Scalar.addi v119 c1_i32_183
  let c64_i32_245 : BitVec 32 := 64#32
  let v248 : BitVec 32 := Scalar.muli v184 c64_i32_245
  let v249 : BitVec 32 := Scalar.addi v2 v248
  let c0_i32_250 : BitVec 32 := 0#32
  ![v249.toNat, 0]
def k0_off7 (k0_t1 : Fin k0_t1_loop.trips) : Fin 1 → Nat :=
  let c0_i32_121 : BitVec 32 := 0#32
  let c0_i32_53 : BitVec 32 := 0#32
  let c1_i32_54 : BitVec 32 := 1#32
  let arg24 : BitVec 32 := Scf.iv c0_i32_53 c1_i32_54 k0_t1
  let c2_i32_120 : BitVec 32 := 2#32
  let v118 : BitVec 32 := Scalar.muli arg24 c2_i32_120
  let v119 : BitVec 32 := Scalar.addi c0_i32_121 v118
  let c1_i32_183 : BitVec 32 := 1#32
  let v184 : BitVec 32 := Scalar.addi v119 c1_i32_183
  let c2_i32_242 : BitVec 32 := 2#32
  let v244 : BitVec 32 := Scalar.addi v184 c2_i32_242
  let c64_i32_278 : BitVec 32 := 64#32
  let v282 : BitVec 32 := Scalar.muli v244 c64_i32_278
  ![v282.toNat]
def k0_off8 (i : grid0.Coords) (c384_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v52 : BitVec 32 := Scalar.addi v2 c384_i32
  let c0_i32_60 : BitVec 32 := 0#32
  ![v52.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2048x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x64 : Shape := ⟨2, ![100000, 64]⟩
abbrev S100000x128 : Shape := ⟨2, ![100000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x64 : Shape := ⟨2, ![16384, 64]⟩
abbrev S16384x128 : Shape := ⟨2, ![16384, 128]⟩
abbrev S16384x256 : Shape := ⟨2, ![16384, 256]⟩
abbrev S1x128 : Shape := ⟨2, ![1, 128]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S16384, .i32⟩
  | 1 => ⟨S16384, .i32⟩
  | 2 => ⟨S100000x64, .f32⟩
  | 3 => ⟨S100000x64, .f32⟩
  | 4 => ⟨S100000x128, .f32⟩
  | 5 => ⟨S100000x128, .f32⟩
  | 6 => ⟨S256x128, .f32⟩
  | 7 => ⟨S128, .f32⟩
  | 8 => ⟨S128x64, .f32⟩
  | 9 => ⟨S64, .f32⟩
  | 10 => ⟨S128x1, .f32⟩
  | 11 => ⟨S1, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S1, .i32⟩
  | 21 => ⟨S_, .i32⟩
  | 22 => ⟨S16384x1, .i32⟩
  | 23 => ⟨S16384x1, .i1⟩
  | 24 => ⟨S1x1, .i32⟩
  | 25 => ⟨S16384x1, .i32⟩
  | 26 => ⟨S16384x1, .i1⟩
  | 27 => ⟨S16384x1, .i1⟩
  | 28 => ⟨S_, .i1⟩
  | 29 => ⟨S16384, .i1⟩
  | 30 => ⟨S16384x64, .f32⟩
  | 31 => ⟨S16384x64, .i1⟩
  | 32 => ⟨S_, .f32⟩
  | 33 => ⟨S16384x64, .f32⟩
  | 34 => ⟨S16384x64, .f32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S1, .i32⟩
  | 44 => ⟨S_, .i32⟩
  | 45 => ⟨S16384x1, .i32⟩
  | 46 => ⟨S16384x1, .i1⟩
  | 47 => ⟨S1x1, .i32⟩
  | 48 => ⟨S16384x1, .i32⟩
  | 49 => ⟨S16384x1, .i1⟩
  | 50 => ⟨S16384x1, .i1⟩
  | 51 => ⟨S_, .i1⟩
  | 52 => ⟨S16384, .i1⟩
  | 53 => ⟨S16384x64, .f32⟩
  | 54 => ⟨S16384x64, .i1⟩
  | 55 => ⟨S_, .f32⟩
  | 56 => ⟨S16384x64, .f32⟩
  | 57 => ⟨S16384x64, .f32⟩
  | 58 => ⟨S16384x64, .f32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S1, .i32⟩
  | 68 => ⟨S_, .i32⟩
  | 69 => ⟨S16384x1, .i32⟩
  | 70 => ⟨S16384x1, .i1⟩
  | 71 => ⟨S1x1, .i32⟩
  | 72 => ⟨S16384x1, .i32⟩
  | 73 => ⟨S16384x1, .i1⟩
  | 74 => ⟨S16384x1, .i1⟩
  | 75 => ⟨S_, .i1⟩
  | 76 => ⟨S16384, .i1⟩
  | 77 => ⟨S16384x128, .f32⟩
  | 78 => ⟨S16384x128, .i1⟩
  | 79 => ⟨S_, .f32⟩
  | 80 => ⟨S16384x128, .f32⟩
  | 81 => ⟨S16384x128, .f32⟩
  | 82 => ⟨S_, .i32⟩
  | 83 => ⟨S16384, .i32⟩
  | 84 => ⟨S16384, .i1⟩
  | 85 => ⟨S_, .i32⟩
  | 86 => ⟨S16384, .i32⟩
  | 87 => ⟨S16384, .i32⟩
  | 88 => ⟨S16384, .i32⟩
  | 89 => ⟨S16384x1, .i32⟩
  | 90 => ⟨S1, .i32⟩
  | 91 => ⟨S_, .i32⟩
  | 92 => ⟨S16384x1, .i32⟩
  | 93 => ⟨S16384x1, .i1⟩
  | 94 => ⟨S1x1, .i32⟩
  | 95 => ⟨S16384x1, .i32⟩
  | 96 => ⟨S16384x1, .i1⟩
  | 97 => ⟨S16384x1, .i1⟩
  | 98 => ⟨S_, .i1⟩
  | 99 => ⟨S16384, .i1⟩
  | 100 => ⟨S16384x128, .f32⟩
  | 101 => ⟨S16384x128, .i1⟩
  | 102 => ⟨S_, .f32⟩
  | 103 => ⟨S16384x128, .f32⟩
  | 104 => ⟨S16384x128, .f32⟩
  | 105 => ⟨S16384x256, .f32⟩
  | 106 => ⟨S16384x128, .f32⟩
  | 107 => ⟨S1x128, .f32⟩
  | 108 => ⟨S16384x128, .f32⟩
  | 109 => ⟨S16384x128, .f32⟩
  | 110 => ⟨S_, .f32⟩
  | 111 => ⟨S16384x128, .f32⟩
  | 112 => ⟨S16384x128, .f32⟩
  | 113 => ⟨S16384x64, .f32⟩
  | 114 => ⟨S1x64, .f32⟩
  | 115 => ⟨S16384x64, .f32⟩
  | 116 => ⟨S16384x64, .f32⟩
  | 117 => ⟨S_, .f32⟩
  | 118 => ⟨S16384x64, .f32⟩
  | 119 => ⟨S16384x64, .f32⟩
  | 120 => ⟨S16384x128, .f32⟩
  | 121 => ⟨S16384x1, .f32⟩
  | 122 => ⟨S1x1, .f32⟩
  | 123 => ⟨S16384x1, .f32⟩
  | 124 => ⟨S16384x1, .f32⟩
  | 125 => ⟨S16384x1, .f32⟩
  | 126 => ⟨S16384x1, .f32⟩
  | 127 => ⟨S_, .f32⟩
  | _ => ⟨S16384, .i32⟩

abbrev hbmTy0_1 (i : Nat) : BufTy := match i % 128 with
  | 0 => ⟨S16384x1, .f32⟩
  | 1 => ⟨S16384x1, .f32⟩
  | 2 => ⟨S_, .f32⟩
  | 3 => ⟨S16384x1, .f32⟩
  | 4 => ⟨S16384x1, .f32⟩
  | 5 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_v2 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v3 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v4 : Ref sig .tc := ⟨.hbm, 104, rfl⟩
abbrev main_v5 : Ref sig .tc := ⟨.hbm, 105, rfl⟩
abbrev main_v6 : Ref sig .tc := ⟨.hbm, 106, rfl⟩
abbrev main_v7 : Ref sig .tc := ⟨.hbm, 107, rfl⟩
abbrev main_v8 : Ref sig .tc := ⟨.hbm, 108, rfl⟩
abbrev main_v9 : Ref sig .tc := ⟨.hbm, 109, rfl⟩
abbrev main_call4_cst : Ref sig .tc := ⟨.hbm, 110, rfl⟩
abbrev main_call4_v0 : Ref sig .tc := ⟨.hbm, 111, rfl⟩
abbrev main_v10 : Ref sig .tc := ⟨.hbm, 112, rfl⟩
abbrev main_v11 : Ref sig .tc := ⟨.hbm, 113, rfl⟩
abbrev main_v12 : Ref sig .tc := ⟨.hbm, 114, rfl⟩
abbrev main_v13 : Ref sig .tc := ⟨.hbm, 115, rfl⟩
abbrev main_v14 : Ref sig .tc := ⟨.hbm, 116, rfl⟩
abbrev main_call5_cst : Ref sig .tc := ⟨.hbm, 117, rfl⟩
abbrev main_call5_v0 : Ref sig .tc := ⟨.hbm, 118, rfl⟩
abbrev main_v15 : Ref sig .tc := ⟨.hbm, 119, rfl⟩
abbrev main_v16 : Ref sig .tc := ⟨.hbm, 120, rfl⟩
abbrev main_v17 : Ref sig .tc := ⟨.hbm, 121, rfl⟩
abbrev main_v18 : Ref sig .tc := ⟨.hbm, 122, rfl⟩
abbrev main_v19 : Ref sig .tc := ⟨.hbm, 123, rfl⟩
abbrev main_v20 : Ref sig .tc := ⟨.hbm, 124, rfl⟩
abbrev main_v21 : Ref sig .tc := ⟨.hbm, 125, rfl⟩
abbrev main_v22 : Ref sig .tc := ⟨.hbm, 126, rfl⟩
abbrev main_cst : Ref sig .tc := ⟨.hbm, 127, rfl⟩
abbrev main_v23 : Ref sig .tc := ⟨.hbm, 128, rfl⟩
abbrev main_v24 : Ref sig .tc := ⟨.hbm, 129, rfl⟩
abbrev main_cst_0 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩

abbrev nD : Nat := 1
abbrev τ : Topo := Topo.v7x

variable {F : FTy → Type} [FloatOps F]
-- ==== Proof.Bundle.lean ====
/-
  SEVERAL INDIRECT GATHERS, OR SEVERAL COPIES, OUTSTANDING ON ONE SEMAPHORE.

  The kernel puts four gathers of 64 rows on one semaphore and waits four times for the amount of one of them, and does
  the same with the four copies that take the gathered rows out. No wait but the last says which of them has arrived.
  A `Bundle` of `m` members of `p` pieces each (a gather's pieces are its rows, a copy is its own one piece) is a
  recorded batch of `p * m` pieces of `N` units. Each member, when issued, adds what it will bring back to the
  bundle's list; each wait consumes a member's units; the last one hands back the whole list.
-/
module

public import Idealize.ShloMosaic.Lib.Batch
public import Idealize.ShloMosaic.Lib.SparseCore.Stream
public import Idealize.ShloMosaic.Lib.Tactic

@[expose] public section

noncomputable section

namespace Cert.Proof

open Idealize.ShloMosaic
open Idealize.SL Idealize.SL.RA
open Idealize.SL.BI (sProp Storable bigSep bigSep_insert bigSep_empty)
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

variable (EC : UEmb Counters (MT nD τ sig Ix (Elt F) Name U Lvl))

/-! ## A list of resources, all at once -/

/-- Every resource of the list. -/
def seps : List (sProp 𝕄) → sProp 𝕄
  | [] => iprop(emp)
  | P :: Ps => iprop(P ∗ seps Ps)

theorem seps_append (Ps Rs : List (sProp 𝕄)) : seps (Ps ++ Rs) ⊢ iprop(seps Ps ∗ seps Rs) := by
  induction Ps with
  | nil => simp only [List.nil_append, seps]; iintro H; isplitr; · iempintro
           iexact H
  | cons P Ps ih =>
    simp only [List.cons_append, seps]
    iintro ⟨HP, H⟩
    ihave H' := ih $$ H
    icases H' with ⟨H1, H2⟩
    isplitl [HP H1]; · isplitl [HP] <;> iassumption
    iexact H2

theorem seps_snoc (Ps : List (sProp 𝕄)) (G : sProp 𝕄) : iprop(seps Ps ∗ G) ⊢ seps (Ps ++ [G]) := by
  induction Ps with
  | nil => simp only [List.nil_append, seps]; iintro ⟨-, H⟩; isplitl [H]; · iexact H
           iempintro
  | cons P Ps ih =>
    simp only [List.cons_append, seps]
    iintro ⟨⟨HP, H⟩, HG⟩
    isplitl [HP]; · iexact HP
    iapply ih; isplitl [H] <;> iassumption

theorem seps_ofFn {n : ℕ} (D : Fin n → sProp 𝕄) : seps (List.ofFn D) ⊢ bigSep Finset.univ D := by
  induction n with
  | zero => rw [Finset.univ_eq_empty, bigSep_empty, List.ofFn_zero]; exact .rfl
  | succ n ih =>
    rw [List.ofFn_succ, bigSep_univ_succ]
    simp only [seps]
    iintro ⟨H0, H⟩
    isplitl [H0]; · iexact H0
    iapply (ih fun j => D j.succ); iexact H

theorem seps_of_deliv (Ps : List (sProp 𝕄)) {m : ℕ} (hm : Ps.length = m) : bigSep Finset.univ (deliv (m := m) Ps) ⊢ seps Ps := by
  subst hm
  induction Ps with
  | nil => exact (Entails.of_eq (show bigSep (Finset.univ : Finset (Fin 0)) (deliv (m := 0) []) = iprop(emp) from by rw [Finset.univ_eq_empty, bigSep_empty]; rfl))
  | cons P Ps ih =>
    simp only [List.length_cons]
    rw [bigSep_univ_succ]
    simp only [seps]
    iintro ⟨H0, H⟩
    isplitl [H0]; · iapply (Entails.of_eq (show deliv (P :: Ps) (0 : Fin (Ps.length + 1)) = P from rfl)) $$ H0
    iapply ((Entails.of_eq (show bigSep Finset.univ (fun j : Fin Ps.length => deliv (P :: Ps) j.succ) = bigSep Finset.univ (deliv (m := Ps.length) Ps) from rfl)).trans ih) $$ H

/-! ## The issue rights of a recorded batch, apart from the credit -/

variable (c : Thread nD τ)

/-- A recorded batch without its credit: the pieces recorded so far are `Ds`, the units consumed so far `u`. -/
def Queue (sm : SemLoc sig) (N m : ℕ) (Ds : List (sProp 𝕄)) (u : ℕ) : sProp 𝕄 :=
  iprop(∃ (γ : Fin m → ℕ) (γ₀ : ℕ) (κ : Name) (π μ : Fin m → ℕ) (κs : Fin m → Name),
    inv κ (batchBody EC (c, sm) N (fun t => tok EC (π t)) γ γ₀)
    ∗ bigSep (pending Ds.length) (fun t => iprop(count EC (γ t) 0 ∗ tok EC (π t) ∗ tok EC (μ t)))
    ∗ count EC γ₀ u
    ∗ bigSep (issued Ds.length) (fun t => inv (κs t) (lateBody EC (deliv Ds t) (π t) (μ t))))

theorem queue_of_batched (sm : SemLoc sig) (ι : Ix) (N m : ℕ) (Ds : List (sProp 𝕄)) (u : ℕ) :
    Batched EC c sm ι N m Ds u ⊢ iprop(Queue EC c sm N m Ds u ∗ cred (tallyAt (c, sm) ι (Ds.length * N - u))) := by
  unfold Batched Queue
  iintro ⟨%γ, %γ₀, %κ, %π, %μ, %κs, HI, Hp, H0, Hc, Hs⟩
  isplitr [Hc]
  · iexists γ, γ₀, κ, π, μ, κs
    isplitl [HI]; · iexact HI
    isplitl [Hp]; · iexact Hp
    isplitl [H0] <;> iassumption
  · iexact Hc

theorem batched_of_queue (sm : SemLoc sig) (ι : Ix) (N m : ℕ) (Ds : List (sProp 𝕄)) (u : ℕ) :
    iprop(Queue EC c sm N m Ds u ∗ cred (tallyAt (c, sm) ι (Ds.length * N - u))) ⊢ Batched EC c sm ι N m Ds u := by
  unfold Batched Queue
  iintro ⟨⟨%γ, %γ₀, %κ, %π, %μ, %κs, HI, Hp, H0, Hs⟩, Hc⟩
  iexists γ, γ₀, κ, π, μ, κs
  isplitl [HI]; · iexact HI
  isplitl [Hp]; · iexact Hp
  isplitl [H0]; · iexact H0
  isplitl [Hc] <;> iassumption

/-- One more piece: its credit update, and the queue with what it will bring back recorded. -/
theorem queue_issue [Infinite Name] [EC.LandsIn (upEmb : UEmb _ 𝕄)] {sm : SemLoc sig} {N m : ℕ} {Ds : List (sProp 𝕄)} {u : ℕ}
    (D : sProp 𝕄) [Storable (upEmb : UEmb _ 𝕄) D] (hj : Ds.length < m) :
    Queue EC c sm N m Ds u ⊢ (|={Set.univ}=> iprop(creditUpdate (c, sm) N 0 D ∗ Queue EC c sm N m (Ds ++ [D]) u) : sProp 𝕄) := by
  unfold Queue
  iintro ⟨%γ, %γ₀, %κ, %π, %μ, %κs, #Hinv, Hp, H0, Hs⟩
  ihave Hp' := (show bigSep (pending Ds.length) (fun t => iprop(count EC (γ t) 0 ∗ tok EC (π t) ∗ tok EC (μ t)))
      ⊢ iprop((count EC (γ ⟨Ds.length, hj⟩) 0 ∗ tok EC (π ⟨Ds.length, hj⟩) ∗ tok EC (μ ⟨Ds.length, hj⟩))
          ∗ bigSep (pending (Ds.length + 1)) (fun t => iprop(count EC (γ t) 0 ∗ tok EC (π t) ∗ tok EC (μ t))))
    from Entails.of_eq (by rw [pending_succ hj, bigSep_insert (not_mem_pending_succ hj)]; rfl)) $$ Hp
  icases Hp' with ⟨⟨Ht, Hπ, Hμ⟩, Hp⟩
  imod (inv_alloc_fresh (P := lateBody EC D (π ⟨Ds.length, hj⟩) (μ ⟨Ds.length, hj⟩)) (E := Set.univ) {κ}) $$ [Hπ] with ⟨%κt, %hκt, #HinvI⟩
  · unfold lateBody; ileft; iexact Hπ
  have hne : κt ≠ κ := fun h => hκt (Finset.mem_singleton.mpr h)
  imodintro
  isplitl [Ht Hμ]
  · iapply (batched_creditUpdate EC (π := π) (γ := γ) (γ₀ := γ₀) (κ := κ) ⟨Ds.length, hj⟩ hne)
    isplitr; · iexact Hinv
    isplitr; · iexact HinvI
    isplitl [Ht] <;> iassumption
  iexists γ, γ₀, κ, π, μ, Function.update κs ⟨Ds.length, hj⟩ κt
  isplitr; · iexact Hinv
  rw [List.length_append, List.length_singleton]
  isplitl [Hp]; · iexact Hp
  isplitl [H0]; · iexact H0
  have hold : bigSep (issued Ds.length) (fun t => inv (Function.update κs ⟨Ds.length, hj⟩ κt t) (lateBody EC (deliv (Ds ++ [D]) t) (π t) (μ t)))
      = (bigSep (issued Ds.length) (fun t => inv (κs t) (lateBody EC (deliv Ds t) (π t) (μ t))) : sProp 𝕄) :=
    BI.bigSep_congr fun t ht => by
      have ht' : t.val < Ds.length := by simpa [issued] using ht
      rw [Function.update_of_ne (fun h => by subst h; exact Nat.lt_irrefl _ ht'), deliv_append_of_lt _ _ _ ht']
  iapply (show iprop(inv κt (lateBody EC D (π ⟨Ds.length, hj⟩) (μ ⟨Ds.length, hj⟩)) ∗ bigSep (issued Ds.length) (fun t => inv (κs t) (lateBody EC (deliv Ds t) (π t) (μ t))))
      ⊢ (bigSep (issued (Ds.length + 1)) (fun t => inv (Function.update κs ⟨Ds.length, hj⟩ κt t) (lateBody EC (deliv (Ds ++ [D]) t) (π t) (μ t))) : sProp 𝕄)
    from Entails.of_eq (by
      rw [issued_succ hj, bigSep_insert (not_mem_issued hj), Function.update_self, deliv_append_length _ _ _ rfl, hold]; rfl))
  isplitr; · iexact HinvI
  iexact Hs

/-- `n` more pieces at once. -/
theorem queue_issues [Infinite Name] [EC.LandsIn (upEmb : UEmb _ 𝕄)] {sm : SemLoc sig} {N m u : ℕ} :
    ∀ {n : ℕ} (Ds : List (sProp 𝕄)) (D : Fin n → sProp 𝕄) [∀ j, Storable (upEmb : UEmb _ 𝕄) (D j)], Ds.length + n ≤ m →
    (Queue EC c sm N m Ds u ⊢ (|={Set.univ}=> iprop(bigSep Finset.univ (fun j => creditUpdate (c, sm) N 0 (D j)) ∗ Queue EC c sm N m (Ds ++ List.ofFn D) u) : sProp 𝕄))
  | 0, Ds, D, _, _ => by
    rw [Finset.univ_eq_empty, bigSep_empty, List.ofFn_zero, List.append_nil]
    iintro H; imodintro; isplitr; · iempintro
    iexact H
  | n + 1, Ds, D, _, hj => by
    iintro H
    imod (queue_issue EC c (D 0) (show Ds.length < m by omega)) $$ H with ⟨H0, H⟩
    imod (queue_issues (Ds ++ [D 0]) (fun j => D j.succ) (by rw [List.length_append, List.length_singleton]; omega)) $$ H with ⟨Hs, H⟩
    imodintro
    rw [bigSep_univ_succ, List.ofFn_succ, show Ds ++ D 0 :: List.ofFn (fun j => D j.succ) = Ds ++ [D 0] ++ List.ofFn (fun j => D j.succ) by simp]
    isplitl [H0 Hs]; · isplitl [H0] <;> iassumption
    iexact H

/-! ## Bundles -/

/-- A bundle of `m` members of `p` pieces of `N` units on a semaphore: the members issued so far will bring back `Gs`, and
    `u` members' units have been waited for. What a member needs beside what its own transfer carries waits here too. -/
def Bundle (sm : SemLoc sig) (ι : Ix) (p N m : ℕ) (Gs : List (sProp 𝕄)) (u : ℕ) : sProp 𝕄 :=
  iprop(∃ (Ds : List (sProp 𝕄)) (R : sProp 𝕄), ⌜Ds.length = p * Gs.length ∧ (iprop(seps Ds ∗ R) ⊢ seps Gs)⌝
    ∗ R ∗ Batched EC c sm ι N (p * m) Ds (u * (p * N)))

theorem bundle_alloc [Infinite Name] [EC.LandsIn (upEmb : UEmb _ 𝕄)] {sm : SemLoc sig} (ι : Ix) (p N m : ℕ) {E : Set Name} :
    (semVal (c, sm) 0 : sProp 𝕄) ⊢ |={E}=> Bundle EC c sm ι p N m [] 0 := by
  unfold Bundle
  iintro Hv
  imod (batched_alloc EC c ι N (p * m)) $$ Hv with H
  imodintro
  iexists [], iprop(emp)
  isplitr
  · ipureintro; exact ⟨rfl, sep_elim_left⟩
  isplitr; · iempintro
  rw [Nat.zero_mul]; iexact H

section Rules

variable {defs : Defs nD τ sig (Elt F) Λ} (𝒱 : Variants) (bd : Option 𝒱.V)
variable {sp sp' : Space} {s₀ s si : Shape} {e : EltTy} {a : Nat} {Q : PUnit → sProp (MT nD τ sig Ix (Elt F) Name U Lvl)}

/-- What row `j` of a gather brings back: the row of the destination written, the entry of the list, a piece of the
    source's share. -/
def rowBack (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
            ((dst.view.slice (s.rowRect hg.axis' j)).write (Elt F) fd (fun i => src.view.read (Elt F) fs (hg.rowIdx (r j) i)) Finset.univ))
        ∗ (offs.view.loc c ↦[{offs.view.emb (si.rowMajor.symm (j.cast hn.symm))}]{qo} fo))
      ∗ (src.view.loc c ↦[src.view.set]{pieceOf q _ ho j} fs))

instance rowBack_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) :
    Storable (upEmb : UEmb _ 𝕄) (rowBack c src dst hg offs hn ho q qo fs fd fo r j) := by
  unfold rowBack; infer_instance

/-- The entries of a list are its elements, numbered. -/
theorem entries_bijective {n : ℕ} (hn : si.numel = n) : Function.Bijective fun j : Fin n => si.rowMajor.symm (j.cast hn.symm) :=
  si.rowMajor.symm.bijective.comp (finCongr hn.symm).bijective

/-- All rows back are the gather done: the destination written with the rows named, the source's share and the list. -/
theorem rows_back (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    bigSep Finset.univ (rowBack c src dst hg offs hn ho q qo fs fd fo r)
      ⊢ (iprop((dst.view.loc c ↦[dst.view.set]{fullShare} (dst.view.write (Elt F) fd (SparseCore.gatherPayload hg (src.view.read (Elt F) fs) r) Finset.univ))
          ∗ (src.view.loc c ↦[src.view.set]{q} fs) ∗ (offs.view.loc c ↦[offs.view.set]{qo} fo)) : sProp 𝕄) := by
  have hrows : (bigSep Finset.univ fun j => dst.view.loc c ↦[(dst.view.slice (s.rowRect hg.axis' j)).set]{fullShare}
      ((dst.view.slice (s.rowRect hg.axis' j)).write (Elt F) fd (fun i => src.view.read (Elt F) fs (hg.rowIdx (r j) i)) Finset.univ))
      ⊢ (dst.view.loc c ↦[dst.view.set]{fullShare} (dst.view.write (Elt F) fd (SparseCore.gatherPayload hg (src.view.read (Elt F) fs) r) Finset.univ) : sProp 𝕄) :=
   pointsTo_rows_write (Ix := Ix) (Name := Name) (U := U) (Lvl := Lvl) c dst.view hg.axis' fd
    (fun j i => src.view.read (Elt F) fs (hg.rowIdx (r j) i)) (SparseCore.gatherPayload hg (src.view.read (Elt F) fs) r) fun j i => by
      unfold SparseCore.gatherPayload; rw [Shape.Gathers.idx_rowRect_emb]
  unfold rowBack
  iintro H
  ihave H1 := bigSep_sep_out _ _ _ $$ H
  icases H1 with ⟨H2, Hsrc⟩
  ihave H3 := bigSep_sep_out _ _ _ $$ H2
  icases H3 with ⟨Hrows, Hoffs⟩
  isplitl [Hrows]
  · iapply hrows $$ Hrows
  isplitl [Hsrc]
  · iapply (Entails.of_eq (pointsTo_piecesOf src.view.set fs ho q).symm) $$ Hsrc
  iapply (Entails.of_eq (pointsTo_entries c offs.view _ (entries_bijective hn) qo fo).symm) $$ Hoffs

/-- THE ISSUE OF A GATHER OF A BUNDLE: from a share of the source, the destination's elements, a share of the list (every
    word of it in range) and whatever else `R` the member's result `G` needs. -/
theorem wp_gather [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {q qo : PosShare TreeShare} {fs : Buf (Elt F) (src.view.loc c)} {fd : Buf (Elt F) (dst.view.loc c)} {fo : Buf (Elt F) (offs.view.loc c)}
    (ι : Ix) {p N m : ℕ} (hp' : s.size hg.axis' = p)
    (hN : ∀ j, (dst.slice (s.rowRect hg.axis' j) (s.stride_rowRect hg.axis' j)).view.dmaCredit = N)
    (hs : 0 < s.numel) (hin : ∀ x, (offs.view.read (Elt F) fo x).toNat < s₀.size hg.axis)
    {Gs : List (sProp 𝕄)} (hm : Gs.length < m) {R : sProp 𝕄} (G : sProp 𝕄)
    (hG : iprop(((dst.view.loc c ↦[dst.view.set]{fullShare}
              (dst.view.write (Elt F) fd (SparseCore.gatherPayload hg (src.view.read (Elt F) fs) (SparseCore.rows (offs.view.read (Elt F) fo) hn hin)) Finset.univ))
            ∗ (src.view.loc c ↦[src.view.set]{q} fs) ∗ (offs.view.loc c ↦[offs.view.set]{qo} fo)) ∗ R) ⊢ G) :
    iprop(Bundle EC c (.dma sem) ι p N m Gs 0 ∗ (src.view.loc c ↦[src.view.set]{q} fs) ∗ (dst.view.loc c ↦[dst.view.set]{fullShare} fd)
        ∗ (offs.view.loc c ↦[offs.view.set]{qo} fo) ∗ R)
      ⊢ iprop((Bundle EC c (.dma sem) ι p N m (Gs ++ [G]) 0 -∗ Q ⟨⟩)
          -∗ wp frame (wpE defs 𝒱 c bd) Set.univ (SparseCore.enqueueIndirectGather hp src dst hg offs hn sem hsrc he hsp hr) Q) := by
  subst hp'
  have ho : 0 < s.size hg.axis' := Shape.size_pos_of_numel_pos hs _
  let r : Fin (s.size hg.axis') → Fin (s₀.size hg.axis) := SparseCore.rows (offs.view.read (Elt F) fo) hn hin
  let rd : Fin (s.size hg.axis') → RowDma τ sig (Elt F) c.2 sem := fun j => SparseCore.gatherRow c src dst hg sem hsrc he hsp hr j (r j)
  let S : Stream nD τ sig (Elt F) :=
    Stream.issued c offs.view hn sem (fun j w => (SparseCore.rowOf (s₀.size hg.axis) w).map (SparseCore.gatherRow c src dst hg sem hsrc he hsp hr j)) 0
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (SparseCore.rowOf (s₀.size hg.axis) (offs.view.read (Elt F) fo (S.entry j))).map _ = _
    rw [SparseCore.rowOf_of_lt (hin _)]; rfl
  have hsum : ∑ j, (rd j).dst.view.dmaCredit = s.size hg.axis' * N := SparseCore.sum_rowCredit_eq _ hN rfl
  have hrow : ∀ j : Fin (s.size hg.axis'), iprop((((dst.view.loc c ↦[(dst.view.slice (s.rowRect hg.axis' j)).set]{fullShare} fd)
          ∗ (offs.view.loc c ↦[{offs.view.emb (si.rowMajor.symm (j.cast hn.symm))}]{qo} fo)) ∗ (src.view.loc c ↦[src.view.set]{pieceOf q _ ho j} fs))
        ∗ creditUpdate (c, .dma sem) N 0 (rowBack c src dst hg offs hn ho q qo fs fd fo r j))
      ⊢ (iprop(S.heldEntry qo fo j ∗ (S.heldEntry qo fo j -∗ rowRes c (rd j))) : sProp 𝕄) := fun j => by
    iintro ⟨⟨⟨Hr, He⟩, Hsq⟩, HC⟩
    isplitl [He]; · iexact He
    iintro He
    unfold rowRes
    iexists pieceOf q _ ho j, fs, iprop((dst.view.loc c ↦[(dst.view.slice (s.rowRect hg.axis' j)).set]{fullShare}
            ((dst.view.slice (s.rowRect hg.axis' j)).write (Elt F) fd (fun i => src.view.read (Elt F) fs (hg.rowIdx (r j) i)) Finset.univ))
        ∗ (offs.view.loc c ↦[{offs.view.emb (si.rowMajor.symm (j.cast hn.symm))}]{qo} fo))
    isplitl [Hsq]; · iexact Hsq
    isplitl [Hr He]
    · iapply writeUpdate_frame
      isplitl [Hr]
      · iapply (pointsTo_writeUpdate c (v := dst.view.slice (s.rowRect hg.axis' j)) subset_rfl) $$ Hr
      · iexact He
    · rw [show (rd j).dst.view.amount (.dma sem) = N from hN j]
      iexact HC
  have hres : (bigSep Finset.univ fun j : Fin (s.size hg.axis') => iprop((((dst.view.loc c ↦[(dst.view.slice (s.rowRect hg.axis' j)).set]{fullShare} fd)
          ∗ (offs.view.loc c ↦[{offs.view.emb (si.rowMajor.symm (j.cast hn.symm))}]{qo} fo)) ∗ (src.view.loc c ↦[src.view.set]{pieceOf q _ ho j} fs))
        ∗ creditUpdate (c, .dma sem) N 0 (rowBack c src dst hg offs hn ho q qo fs fd fo r j))) ⊢ (S.res qo fo rd : sProp 𝕄) :=
    BI.bigSep_mono fun j _ => hrow j
  unfold Bundle
  rw [← bind_pure (SparseCore.enqueueIndirectGather hp src dst hg offs hn sem hsrc he hsp hr), SparseCore.enqueueIndirectGather_bind]
  iintro ⟨⟨%Ds, %R', ⟨%hlen, %hseps⟩, HR', HB⟩, Hs, Hd, Ho, HR⟩ Hk
  ihave HB' := (queue_of_batched EC c (.dma sem) ι N _ Ds _) $$ HB
  icases HB' with ⟨HQ, Hcr⟩
  have hle : Ds.length + s.size hg.axis' ≤ s.size hg.axis' * m := by
    rw [hlen, ← Nat.mul_succ]; exact Nat.mul_le_mul_left _ hm
  imod (queue_issues EC c Ds (rowBack c src dst hg offs hn ho q qo fs fd fo r) hle) $$ HQ with ⟨HC, HQ⟩
  ihave Hd' := (Entails.of_eq (pointsTo_rows c dst.view hg.axis' fullShare fd)) $$ Hd
  ihave Ho' := (Entails.of_eq (pointsTo_entries c offs.view _ (entries_bijective hn) qo fo)) $$ Ho
  ihave Hs' := (Entails.of_eq (pointsTo_piecesOf src.view.set fs ho q)) $$ Hs
  ihave H1 := bigSep_sep_in _ _ _ $$ [Hd' Ho']; · isplitl [Hd'] <;> iassumption
  ihave H2 := bigSep_sep_in _ _ _ $$ [H1 Hs']; · isplitl [H1] <;> iassumption
  ihave H3 := bigSep_sep_in _ _ _ $$ [H2 HC]; · isplitl [H2] <;> iassumption
  iapply (wp_enqueueIndirectDma 𝒱 c bd Set.univ (hp := hp) (qo := qo) (fo := fo) (rd := rd) ι (s.size hg.axis' * N) hA hrd hsum) $$ [H3]
  · iapply hres $$ H3
  iintro Hcred
  rw [wp_pure]
  imodintro
  iapply Hk
  iexists Ds ++ List.ofFn (rowBack c src dst hg offs hn ho q qo fs fd fo r), iprop(R' ∗ R)
  isplitr
  · ipureintro
    refine ⟨by rw [List.length_append, List.length_append, List.length_ofFn, hlen, List.length_singleton, Nat.mul_succ], ?_⟩
    iintro ⟨H, HR', HR⟩
    ihave H' := (seps_append _ _) $$ H
    icases H' with ⟨H1, H2⟩
    iapply (seps_snoc Gs G)
    isplitl [H1 HR']
    · iapply hseps; isplitl [H1] <;> iassumption
    iapply hG
    isplitr [HR]
    · iapply (rows_back c src dst hg offs hn ho q qo fs fd fo r)
      iapply (seps_ofFn _) $$ H2
    iexact HR
  isplitl [HR HR']; · isplitl [HR'] <;> iassumption
  iapply (batched_of_queue EC c (.dma sem) ι N _ _ _)
  isplitl [HQ]; · iexact HQ
  rw [List.length_append, List.length_ofFn, Nat.zero_mul, Nat.sub_zero, Nat.sub_zero, Nat.add_mul, ← tallyAt_add]
  icombine Hcr Hcred as H
  iexact H

/-- The issue of a copy of a bundle: a copy is a member of one piece. -/
theorem wp_copy [Infinite Name] [EC.LandsIn (upEmb : UEmb _ 𝕄)]
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {q : PosShare TreeShare} {fs : Buf (Elt F) (src.view.loc c)} {fd : Buf (Elt F) (dst.view.loc c)}
    (ι : Ix) {N m : ℕ} (hN : dst.view.amount (.dma sem) = N) {Gs : List (sProp 𝕄)} (hm : Gs.length < m) {R : sProp 𝕄} (G : sProp 𝕄)
    (hG : iprop(((dst.view.loc c ↦[dst.view.set]{fullShare} (dst.view.write (Elt F) fd (src.view.read (Elt F) fs) Finset.univ))
            ∗ (src.view.loc c ↦[src.view.set]{q} fs)) ∗ R) ⊢ G) :
    iprop(Bundle EC c (.dma sem) ι 1 N m Gs 0 ∗ (src.view.loc c ↦[src.view.set]{q} fs) ∗ (dst.view.loc c ↦[dst.view.set]{fullShare} fd) ∗ R)
      ⊢ iprop((Bundle EC c (.dma sem) ι 1 N m (Gs ++ [G]) 0 -∗ Q ⟨⟩)
          -∗ wp frame (wpE defs 𝒱 c bd) Set.univ (Prog.lift (.enqueueDma src (.here dst) (.dma sem) hsrc hdst hsem)) Q) := by
  unfold Bundle
  iintro ⟨⟨%Ds, %R', ⟨%hlen, %hseps⟩, HR', HB⟩, Hs, Hd, HR⟩ Hk
  iapply (wp_dmaBatched EC 𝒱 c bd (src := src) (via := .same) (dst := dst) (fs := fs) (fd := fd) (q := q) (Ds := Ds) (m := 1 * m) (u := 0 * (1 * N)) ι N hN
    subset_rfl (by rw [hlen]; omega) (by rw [Nat.zero_mul]; exact Nat.zero_le _)) $$ [Hs Hd HB]
  · isplitl [Hs]; · iexact Hs
    isplitl [Hd] <;> iassumption
  iintro HB
  rw [wp_ret]
  imodintro
  iapply Hk
  iexists Ds ++ [iprop((dst.view.loc c ↦[dst.view.set]{fullShare} (dst.view.write (Elt F) fd ((ReadAs.same (Val := Elt F)).apply (src.view.read (Elt F) fs)) Finset.univ))
      ∗ (src.view.loc c ↦[src.view.set]{q} fs))], iprop(R' ∗ R)
  isplitr
  · ipureintro
    refine ⟨by rw [List.length_append, List.length_append, hlen, List.length_singleton, List.length_singleton, Nat.mul_succ], ?_⟩
    iintro ⟨H, HR', HR⟩
    ihave H' := (seps_append _ _) $$ H
    icases H' with ⟨H1, H2⟩
    iapply (seps_snoc Gs G)
    isplitl [H1 HR']
    · iapply hseps; isplitl [H1] <;> iassumption
    iapply hG
    isplitr [HR]
    · simp only [seps]; icases H2 with ⟨H2, -⟩; iexact H2
    iexact HR
  isplitl [HR HR']; · isplitl [HR'] <;> iassumption
  iexact HB

/-- A wait for one member of a bundle that is not its last. -/
theorem wp_waitSome [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    (ι : Ix) {p N m : ℕ} (hJ : dstw.view.dmaCredit = p * N) {Gs : List (sProp 𝕄)} {u : ℕ} (hu : u < Gs.length)
    {O : CellTallies nD τ sig Ix} {W : Waits sig Ix} :
    iprop(Bundle EC c (.dma sem) ι p N m Gs u ∗ owes c O W ∗ MayWait c (.dma sem) ι O)
      ⊢ iprop((iprop(Bundle EC c (.dma sem) ι p N m Gs (u + 1) ∗ owes c O (insert (SemLoc.dma sem, ι) W)) -∗ Q ⟨⟩)
          -∗ wp frame (wpE defs 𝒱 c bd) Set.univ (Prog.lift (.waitDma2 sem srcw dstw hsrc hdst)) Q) := by
  unfold Bundle
  iintro ⟨⟨%Ds, %R', ⟨%hlen, %hseps⟩, HR', HB⟩, HO, HM⟩ Hk
  iapply (wp_waitBatchedMulO EC 𝒱 c bd ι p hJ (by
    rw [hlen, ← Nat.succ_mul, Nat.mul_comm p Gs.length, Nat.mul_comm N, Nat.mul_assoc]; exact Nat.mul_le_mul_right _ hu)) $$ [HB HO HM]
  · isplitl [HB]; · iexact HB
    isplitl [HO] <;> iassumption
  iintro ⟨HB, HO⟩
  rw [wp_ret]
  imodintro
  iapply Hk
  isplitr [HO]
  · iexists Ds, R'
    isplitr; · ipureintro; exact ⟨hlen, hseps⟩
    isplitl [HR']; · iexact HR'
    rw [Nat.succ_mul]; iexact HB
  iexact HO

/-- The wait for the last member of a bundle: everything it was to bring back, and the semaphore at zero. -/
theorem wp_waitAll [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    (ι : Ix) {p N m : ℕ} (hJ : dstw.view.dmaCredit = p * N) (hN0 : 0 < N) {Gs : List (sProp 𝕄)} {u : ℕ} (hm : Gs.length = m) (hu : u + 1 = m)
    {O : CellTallies nD τ sig Ix} {W : Waits sig Ix} :
    iprop(Bundle EC c (.dma sem) ι p N m Gs u ∗ owes c O W ∗ MayWait c (.dma sem) ι O)
      ⊢ iprop((iprop(seps Gs ∗ semVal (c, .dma sem) 0 ∗ owes c O (insert (SemLoc.dma sem, ι) W)) -∗ Q ⟨⟩)
          -∗ wp frame (wpE defs 𝒱 c bd) Set.univ (Prog.lift (.waitDma2 sem srcw dstw hsrc hdst)) Q) := by
  subst hm
  unfold Bundle
  iintro ⟨⟨%Ds, %R', ⟨%hlen, %hseps⟩, HR', HB⟩, HO, HM⟩ Hk
  iapply (wp_waitBatchedAllO EC 𝒱 c bd ι hJ hN0 hlen (by
    rw [← Nat.succ_mul, Nat.succ_eq_add_one, hu, Nat.mul_comm p N, Nat.mul_left_comm, Nat.mul_comm Gs.length])) $$ [HB HO HM]
  · isplitl [HB]; · iexact HB
    isplitl [HO] <;> iassumption
  iintro ⟨HD, Hv, HO⟩
  rw [wp_ret]
  imodintro
  iapply Hk
  isplitl [HD HR']
  · iapply hseps
    isplitl [HD]; · iapply (seps_of_deliv Ds hlen); iexact HD
    iexact HR'
  isplitl [Hv] <;> iassumption

end Rules

end Cert.Proof

end
-- ==== Proof.Setup.lean ====
/-
  THE SPARSECORE CALL: the launch's set-up, and what one table's gathers carry.

  Thirty-two tiles each gather 512 rows of four tables, in eight chunks of 64 rows: each chunk is gathered into one of
  the two slots of a table's row buffer, through the numbers in the tile's own list, and copied out to its rows of the
  table's result. `gath` is that result as an array; `wrow` names one of its rows by number.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Bundle

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging cells' rounds, the copies' counters. -/
abbrev UU : Type := URounds (GSem nD τ sig) ℕ × (URounds (GSem nD τ sig) Unit × Counters)

local notation "𝕄" => MT nD τ sig (HIx 1) (Elt F) ℕ UU ℕ

abbrev EH : Emb (URounds (GSem nD τ sig) ℕ) (MT nD τ sig (HIx 1) (Elt F) ℕ UU ℕ) := embL
abbrev EC : UEmb Counters (MT nD τ sig (HIx 1) (Elt F) ℕ UU ℕ) := countersEmb (U := UU)

/-! ## The gathered rows as an array -/

/-- Row `n` (of a table of `z` rows), column `j`. -/
def wrow {α : Type} {z : ℕ} [NeZero z] (t : (⟨2, ![z, 128]⟩ : Shape).Idx → α) (n : ℕ) (j : Fin 128) : α :=
  t (ix2 (Fin.ofNat z n) j)

/-- The table's rows that a list of 16384 numbers names, in the list's order. -/
def gath {α : Type} {z : ℕ} [NeZero z] (t : (⟨2, ![z, 128]⟩ : Shape).Idx → α) (ix : S16384.Idx → BitVec 32) : S16384x128.Idx → α :=
  fun y => wrow t (ix (ix1 (y 0))).toNat (y 1)

/-- A tile's 512 numbers, from place `B` of the list on. -/
def tileIx (ix : S16384.Idx → BitVec 32) (B : ℕ) : S512.Idx → BitVec 32 :=
  fun i => ix (ix1 (Fin.ofNat 16384 (B + (i 0).val)))

/-- The 64 rows of an array from row `a` on. -/
def wrows {α : Type} (W : S16384x128.Idx → α) (a : ℕ) : S64x128.Idx → α :=
  fun x => W (ix2 (Fin.ofNat 16384 (a + (x 0).val)) (x 1))

/-- The elements of an array's rows from `a` to `b`. -/
def rowsSet (a b : ℕ) : Finset S16384x128.Idx := Finset.univ.filter fun i => a ≤ (i 0).val ∧ (i 0).val < b

theorem mem_rowsSet {a b : ℕ} {i : S16384x128.Idx} : i ∈ rowsSet a b ↔ a ≤ (i 0).val ∧ (i 0).val < b := by
  simp [rowsSet]

theorem rowsSet_union {a b c : ℕ} (h : a ≤ b) (h' : b ≤ c) : rowsSet a c = rowsSet a b ∪ rowsSet b c := by
  ext i; simp only [Finset.mem_union, mem_rowsSet]; omega

theorem rowsSet_disjoint (a b c : ℕ) : Disjoint (rowsSet a b) (rowsSet b c) :=
  Finset.disjoint_left.mpr fun i h h' => by rw [mem_rowsSet] at h h'; omega

theorem rowsSet_empty (a : ℕ) : rowsSet a a = ∅ := by
  ext i; simp only [mem_rowsSet, Finset.notMem_empty, iff_false]; omega

/-- Held elements cut in two, at one contents. -/
theorem held_split {ℓ : Loc nD τ sig} {A B C : Finset (Idx ℓ)} (h : C = A ∪ B) (hd : Disjoint A B) {q : PosShare TreeShare} (f : Buf (Elt F) ℓ) :
    (ℓ ↦[C]{q} f : sProp 𝕄) ⊣⊢ iprop((ℓ ↦[A]{q} f) ∗ ℓ ↦[B]{q} f) := by
  rw [h]; exact pointsTo_union hd

/-- What a gather reads for a chunk, from the rows its list names. -/
theorem payload_eq {z : ℕ} [NeZero z] (hg : (⟨2, ![z, 128]⟩ : Shape).Gathers 0 S64x128) (t : (⟨2, ![z, 128]⟩ : Shape).Idx → Elt F .f32)
    (ix : S64.Idx → Elt F .i32) (hn : S64.numel = S64x128.size hg.axis') (hin : ∀ x, (ix x).toNat < (⟨2, ![z, 128]⟩ : Shape).size hg.axis) (x : S64x128.Idx) :
    SparseCore.gatherPayload hg t (SparseCore.rows ix hn hin) x = wrow t (ix (ix1 (x 0))).toNat (x 1) := by
  unfold SparseCore.gatherPayload wrow SparseCore.rows Shape.Gathers.idx
  congr 1
  funext b
  match b with
  | ⟨0, _⟩ =>
    apply Fin.ext
    simp only [↓reduceDIte]
    show (ix _).toNat = _ % z
    have e : S64.rowMajor.symm (Fin.cast hn.symm (x hg.axis')) = (ix1 (x 0) : S64.Idx) :=
      (Equiv.symm_apply_eq S64.rowMajor).2 (Fin.ext (Shape.rowMajor_val_one (d := ![64]) (ix1 (x 0))).symm)
    rw [e]
    exact (Nat.mod_eq_of_lt (hin _)).symm
  | ⟨1, _⟩ => rfl

/-! ## One gather -/

variable [FloatOps F] [Infinite ℕ]
variable {c : Thread nD τ} {defs : Defs nD τ sig (Elt F) Λ₀}

/-- What a gather into a slot brings back: the slot with the rows it read, and the whole table and the whole list at
the shares it was given of them. -/
def GD {sp : Space} {s₀ s₁ : Shape} (c : Thread nD τ) (T : Memref sig c.2.kind sp s₀ .f32) (X : Memref sig c.2.kind .vmem s₁ .i32)
    (dst : Memref sig c.2.kind .vmem S64x128 .f32) (q qo : PosShare TreeShare) (ft : Buf (Elt F) (T.view.loc c)) (fx : Buf (Elt F) (X.view.loc c))
    (P : S64x128.Idx → Elt F .f32) : sProp 𝕄 :=
  iprop((∃ g, ⌜dst.view.read (Elt F) g = P⌝ ∗ dst.view.loc c ↦[dst.view.set]{fullShare} g)
    ∗ (T.view.loc c ↦[Finset.univ]{q} ft) ∗ X.view.loc c ↦[Finset.univ]{qo} fx)

/-- What a copy of a slot out brings back: the rows it wrote at their final contents, and the slot. -/
def OD (c : Thread nD τ) {sp : Space} (O : Memref sig c.2.kind sp S16384x128 .f32) (src : Memref sig c.2.kind .vmem S64x128 .f32)
    (A : Finset (Idx (O.view.loc c))) (W : Buf (Elt F) (O.view.loc c)) : sProp 𝕄 :=
  iprop((O.view.loc c ↦[A]{fullShare} W) ∗ ∃ g, src.view.loc c ↦[src.view.set]{fullShare} g)

/-- Issue a gather of a whole table's rows, by a window of the list, into a slot. -/
theorem gather_step {Q : PUnit → sProp 𝕄} {sp : Space} {s₀ s₁ : Shape} {T : Memref sig c.2.kind sp s₀ .f32} {X : Memref sig c.2.kind .vmem s₁ .i32}
    {rT : Rect s₀} {hT : ∀ a, rT.stride a = 1} {rX : Rect s₁} {hX : ∀ a, rX.stride a = 1}
    {dst : Memref sig c.2.kind .vmem S64x128 .f32} {a : ℕ} {hg : rT.shape.Gathers a S64x128}
    {hn : rX.shape.numel = S64x128.size hg.axis'} {sem : DmaSem sig}
    {hp : c.2.kind = .scVector} {hsrc : (T.slice rT hT).view.WordExact} {he : (EltTy.f32).bits = 32} {hsp : sp = .hbm ∨ sp = .shared} {hr : rT.shape.StreamRows a}
    {q qo : PosShare TreeShare} {ft : Buf (Elt F) (T.view.loc c)} {fx : Buf (Elt F) (X.view.loc c)} (P : S64x128.Idx → Elt F .f32)
    (ι : HIx 1) {p N m : ℕ} (hp' : S64x128.size hg.axis' = p)
    (hN : ∀ j, (dst.slice (S64x128.rowRect hg.axis' j) (S64x128.stride_rowRect hg.axis' j)).view.dmaCredit = N)
    (hin : ∀ x, ((X.slice rX hX).view.read (Elt F) fx x).toNat < rT.shape.size hg.axis)
    (hP : SparseCore.gatherPayload hg ((T.slice rT hT).view.read (Elt F) ft) (SparseCore.rows ((X.slice rX hX).view.read (Elt F) fx) hn hin) = P)
    {Gs : List (sProp 𝕄)} (hm : Gs.length < m) :
    iprop(Bundle EC c (.dma sem) ι p N m Gs 0 ∗ (T.view.loc c ↦[Finset.univ]{q} ft) ∗ (X.view.loc c ↦[Finset.univ]{qo} fx)
        ∗ ∃ g, dst.view.loc c ↦[dst.view.set]{fullShare} g)
      ⊢ iprop((Bundle EC c (.dma sem) ι p N m (Gs ++ [GD c T X dst q qo ft fx P]) 0 -∗ Q ⟨⟩)
          -∗ wp frame (wpE defs 𝒱₀ c none) Set.univ
            (SparseCore.enqueueIndirectGather hp (T.slice rT hT) dst hg (X.slice rX hX) hn sem hsrc he hsp hr) Q) := by
  have hT' := pointsTo_split_subset (Ix := HIx 1) (Name := ℕ) (U := UU) (Lvl := ℕ) (q := q) (f := ft) (Finset.subset_univ (T.slice rT hT).view.set)
  have hX' := pointsTo_split_subset (Ix := HIx 1) (Name := ℕ) (U := UU) (Lvl := ℕ) (q := qo) (f := fx) (Finset.subset_univ (X.slice rX hX).view.set)
  iintro ⟨HB, HT, HX, ⟨%g, Hd⟩⟩ Hk
  ihave HT := hT'.1 $$ HT
  icases HT with ⟨HT, HT'⟩
  ihave HX := hX'.1 $$ HX
  icases HX with ⟨HX, HX'⟩
  iapply (wp_gather EC c 𝒱₀ none (Q := Q) (src := T.slice rT hT) (dst := dst) (offs := X.slice rX hX) (q := q) (qo := qo) (fs := ft) (fd := g) (fo := fx) ι hp' hN (by decide) hin hm
    (R := iprop((T.view.loc c ↦[Finset.univ \ (T.slice rT hT).view.set]{q} ft) ∗ (X.view.loc c ↦[Finset.univ \ (X.slice rX hX).view.set]{qo} fx)))
    (GD c T X dst q qo ft fx P) ?_) $$ [HB HT HX HT' HX' Hd]
  · unfold GD
    iintro ⟨⟨Hd, HT, HX⟩, HT', HX'⟩
    isplitl [Hd]
    · iexists _
      isplitr
      swap; · iexact Hd
      ipureintro
      rw [View.read_write_univ]; exact hP
    isplitl [HT HT']
    · iapply hT'.2
      isplitl [HT] <;> iassumption
    · iapply hX'.2
      isplitl [HX] <;> iassumption
  · isplitl [HB]; · iexact HB
    isplitl [HT]; · iexact HT
    isplitl [Hd]; · iexact Hd
    isplitl [HX]; · iexact HX
    isplitl [HT'] <;> iassumption
  iexact Hk

/-- Issue the copy of a slot out to its rows of the result. -/
theorem copy_step {Q : PUnit → sProp 𝕄} {sp : Space} {O : Memref sig c.2.kind sp S16384x128 .f32} {rO : Rect S16384x128} {hO : ∀ a, rO.stride a = 1}
    {src : Memref sig c.2.kind .vmem rO.shape .f32} {sem : DmaSem sig} (hs : rO.shape = S64x128)
    {hsrc : src.view.WordExact} {hdst : (O.slice rO hO).view.WordExact} {hsem : DmaTarget.Typed (nD := nD) .vmem (.dma sem) (.here (O.slice rO hO))}
    {f W : Buf (Elt F) (O.view.loc c)} (P : rO.shape.Idx → Elt F .f32) (A : Finset (Idx (O.view.loc c)))
    (ι : HIx 1) {N m : ℕ} (hN : (O.slice rO hO).view.amount (.dma sem) = N) (hA : (O.slice rO hO).view.set = A)
    (hW : (O.slice rO hO).view.read (Elt F) W = P) {Gs : List (sProp 𝕄)} (hm : Gs.length < m) :
    iprop(Bundle EC c (.dma sem) ι 1 N m Gs 0 ∗ (∃ g, ⌜src.view.read (Elt F) g = P⌝ ∗ src.view.loc c ↦[src.view.set]{fullShare} g)
        ∗ (O.view.loc c ↦[A]{fullShare} f))
      ⊢ iprop((Bundle EC c (.dma sem) ι 1 N m (Gs ++ [iprop((O.view.loc c ↦[A]{fullShare} W) ∗ ∃ g, src.view.loc c ↦[src.view.set]{fullShare} g)]) 0 -∗ Q ⟨⟩)
          -∗ wp frame (wpE defs 𝒱₀ c none) Set.univ (Prog.lift (.enqueueDma src (.here (O.slice rO hO)) (.dma sem) hsrc hdst hsem)) Q) := by
  subst hA
  iintro ⟨HB, ⟨%g, %hgP, Hs⟩, HO⟩ Hk
  iapply (wp_copy EC c 𝒱₀ none (Q := Q) (src := src) (dst := O.slice rO hO) (q := fullShare) (fs := g) (fd := f) ι hN hm (R := iprop(emp))
    (iprop((O.view.loc c ↦[(O.slice rO hO).view.set]{fullShare} W) ∗ ∃ g, src.view.loc c ↦[src.view.set]{fullShare} g)) ?_) $$ [HB HO Hs]
  · have e : ((O.slice rO hO).view.loc c ↦[(O.slice rO hO).view.set]{fullShare} ((O.slice rO hO).view.write (Elt F) f (src.view.read (Elt F) g) Finset.univ) : sProp 𝕄)
        = (O.view.loc c ↦[(O.slice rO hO).view.set]{fullShare} W) := by
      refine pointsTo_congr fun i hi => ?_
      obtain ⟨x, -, rfl⟩ := Finset.mem_map.mp hi
      rw [View.write_emb_of_mem _ _ (Finset.mem_univ x), hgP, ← hW]
      rw [View.read_apply, cast_cast, cast_eq]
    rw [e]
    iintro ⟨⟨HO, Hs⟩, HR⟩
    isplitl [HO]; · iexact HO
    iexists _; iexact Hs
  · isplitl [HB]; · iexact HB
    isplitl [Hs]; · iexact Hs
    isplitl [HO]; · iexact HO
    iempintro
  iexact Hk

end Cert.Proof
-- ==== Proof.Chunks.lean ====
/-
  ONE CHUNK OF 64 ROWS OF EVERY TABLE, on one tile: the four gathers into a slot, the four waits of a semaphore, the
  four copies of a slot out. Each is a run of four operations in the kernel's text, stated once for both slots and for
  every chunk.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The arrays and the tile's buffers -/

abbrev T0 : Memref sig .scVector .hbm S50000x128 .f32 := Memref.whole main_v10_scv
abbrev T1 : Memref sig .scVector .hbm S50000x128 .f32 := Memref.whole main_v11_scv
abbrev T2 : Memref sig .scVector .hbm S100000x128 .f32 := Memref.whole main_arg4_scv
abbrev T3 : Memref sig .scVector .hbm S100000x128 .f32 := Memref.whole main_arg5_scv
abbrev A0 : Memref sig .scVector .hbm S16384 .i32 := Memref.whole main_v1_scv
abbrev A1 : Memref sig .scVector .hbm S16384 .i32 := Memref.whole main_v3_scv
abbrev A2 : Memref sig .scVector .hbm S16384 .i32 := Memref.whole main_arg0_scv
abbrev A3 : Memref sig .scVector .hbm S16384 .i32 := Memref.whole main_arg1_scv
abbrev O0 : Memref sig .scVector .hbm S16384x128 .f32 := Memref.whole main_v12_0_scv
abbrev O1 : Memref sig .scVector .hbm S16384x128 .f32 := Memref.whole main_v12_1_scv
abbrev O2 : Memref sig .scVector .hbm S16384x128 .f32 := Memref.whole main_v12_2_scv
abbrev O3 : Memref sig .scVector .hbm S16384x128 .f32 := Memref.whole main_v12_3_scv
abbrev X0 : Memref sig .scVector .vmem S512 .i32 := Memref.whole cc0_scratch2
abbrev X1 : Memref sig .scVector .vmem S512 .i32 := Memref.whole cc0_scratch3
abbrev X2 : Memref sig .scVector .vmem S512 .i32 := Memref.whole cc0_scratch0
abbrev X3 : Memref sig .scVector .vmem S512 .i32 := Memref.whole cc0_scratch1
abbrev B0 : Memref sig .scVector .vmem S2x64x128 .f32 := Memref.whole cc0_scratch4
abbrev B1 : Memref sig .scVector .vmem S2x64x128 .f32 := Memref.whole cc0_scratch5
abbrev B2 : Memref sig .scVector .vmem S2x64x128 .f32 := Memref.whole cc0_scratch6
abbrev B3 : Memref sig .scVector .vmem S2x64x128 .f32 := Memref.whole cc0_scratch7

/-- Slot `b` of a row buffer. -/
abbrev slot (B : Memref sig .scVector .vmem S2x64x128 .f32) (b : ℕ) (hb : ∀ a, (![b, 0, 0] : Fin 3 → ℕ) a + S1x64x128.size a ≤ S2x64x128.size a) :
    Memref sig .scVector .vmem S64x128 .f32 :=
  (B.slice (Rect.unit (s := S2x64x128) ![b, 0, 0] S1x64x128.size hb) (fun _ => rfl)).squeeze S64x128 squeezes_S1x64x128_S64x128

/-- The gathers' semaphore of slot `b`, and the copies'. -/
abbrev gsem (b : ℕ) (hs : ∀ a, (![b] : Fin 1 → ℕ) a + S1.size a ≤ S2.size a) : DmaSem sig :=
  ((cc0_scratch8.slice (Rect.unit (s := S2) ![b] S1.size hs)).squeeze S_ squeezes_S1_S_).sem
abbrev osem (b : ℕ) (hs : ∀ a, (![b] : Fin 1 → ℕ) a + S1.size a ≤ S2.size a) : DmaSem sig :=
  ((cc0_scratch9.slice (Rect.unit (s := S2) ![b] S1.size hs)).squeeze S_ squeezes_S1_S_).sem

/-! ## The values -/

/-- The four tables and the four lists of row numbers. -/
structure Ins (F : FTy → Type) where
  t0 : S50000x128.Idx → Elt F .f32
  t1 : S50000x128.Idx → Elt F .f32
  t2 : S100000x128.Idx → Elt F .f32
  t3 : S100000x128.Idx → Elt F .f32
  x0 : S16384.Idx → Elt F .i32
  x1 : S16384.Idx → Elt F .i32
  x2 : S16384.Idx → Elt F .i32
  x3 : S16384.Idx → Elt F .i32

/-- Every number is one of its table's rows. -/
def Ins.Ok (A : Ins F) : Prop :=
  (∀ y, BitVec.toNat (A.x0 y) < 50000) ∧ (∀ y, BitVec.toNat (A.x1 y) < 50000)
    ∧ (∀ y, BitVec.toNat (A.x2 y) < 100000) ∧ ∀ y, BitVec.toNat (A.x3 y) < 100000

/-- The four results. -/
def Ins.w0 (A : Ins F) : S16384x128.Idx → Elt F .f32 := gath (z := 50000) A.t0 A.x0
def Ins.w1 (A : Ins F) : S16384x128.Idx → Elt F .f32 := gath (z := 50000) A.t1 A.x1
def Ins.w2 (A : Ins F) : S16384x128.Idx → Elt F .f32 := gath (z := 100000) A.t2 A.x2
def Ins.w3 (A : Ins F) : S16384x128.Idx → Elt F .f32 := gath (z := 100000) A.t3 A.x3

/-! ## Windows -/

/-- What a gather reads for the chunk at place `a` of the tile's list, the list starting at place `B`. -/
theorem chunk_payload {z : ℕ} [NeZero z] (hg : (⟨2, ![z, 128]⟩ : Shape).Gathers 0 S64x128) (t t' : (⟨2, ![z, 128]⟩ : Shape).Idx → Elt F .f32)
    (ht : t' = t) (x : S16384.Idx → BitVec 32) (l : S64.Idx → Elt F .i32) {B a : ℕ} (ha : a + 64 ≤ 512) (hB : B + 512 ≤ 16384)
    (hl : ∀ y : Fin 64, l (ix1 y) = tileIx x B (ix1 (Fin.ofNat 512 (a + y.val))))
    (hn : S64.numel = S64x128.size hg.axis') (hin : ∀ y, (l y).toNat < (⟨2, ![z, 128]⟩ : Shape).size hg.axis) :
    SparseCore.gatherPayload hg t' (SparseCore.rows l hn hin) = wrows (gath t x) (B + a) := by
  subst ht
  funext y
  rw [payload_eq hg _ _ hn hin y]
  have hy : (y 0).val < 64 := (y 0).isLt
  have e : l (ix1 (y 0)) = x (ix1 (Fin.ofNat 16384 (B + a + (y 0).val))) := by
    rw [hl (y 0)]
    unfold tileIx
    congr 2
    apply Fin.ext
    show (B + (a + (y 0).val) % 512) % 16384 = (B + a + (y 0).val) % 16384
    rw [Nat.mod_eq_of_lt (by omega : a + (y 0).val < 512), Nat.add_assoc]
  rw [e]; rfl

/-- A result's rows are read, and held, through their window. -/
theorem window_emb {off : Fin 2 → ℕ} {inb} (a : ℕ) (h : off = ![a, 0]) (ha : a + 64 ≤ 16384) (x : S64x128.Idx) :
    (Rect.unit (s := S16384x128) off S64x128.size inb).emb x = ix2 (Fin.ofNat 16384 (a + (x 0).val)) (x 1) := by
  subst h
  have hx : (x 0).val < 64 := (x 0).isLt
  funext k
  apply Fin.ext
  match k with
  | ⟨0, _⟩ =>
    show a + 1 * (x 0).val = (a + (x 0).val) % 16384
    rw [Nat.mod_eq_of_lt (by omega)]; omega
  | ⟨1, _⟩ => show 0 + 1 * (x 1).val = (x 1).val; omega

theorem window_set {off : Fin 2 → ℕ} {inb} (a : ℕ) (h : off = ![a, 0]) :
    (Rect.unit (s := S16384x128) off S64x128.size inb).set = rowsSet a (a + 64) := by
  subst h
  ext i
  rw [Rect.mem_set_unit, mem_rowsSet, Fin.forall_fin_two]
  have h1 : (i 1).val < 128 := (i 1).isLt
  show (a ≤ (i 0).val ∧ (i 0).val < a + 64) ∧ (0 ≤ (i 1).val ∧ (i 1).val < 0 + 128) ↔ _
  omega

/-- A list's window. -/
theorem list_emb {off : Fin 1 → ℕ} {inb} (a : ℕ) (h : off = ![a]) (ha : a + 64 ≤ 512) (y : Fin 64) :
    (Rect.unit (s := S512) off S64.size inb).emb (ix1 y) = ix1 (Fin.ofNat 512 (a + y.val)) := by
  subst h
  funext k
  apply Fin.ext
  match k with
  | ⟨0, _⟩ =>
    show a + 1 * y.val = (a + y.val) % 512
    have := y.isLt
    rw [Nat.mod_eq_of_lt (by omega)]; omega

/-- The tables are taken whole. -/
theorem table_emb {z : ℕ} {inb} (x : (⟨2, ![z, 128]⟩ : Shape).Idx) :
    (Rect.unit (s := ⟨2, ![z, 128]⟩) ![0, 0] (⟨2, ![z, 128]⟩ : Shape).size inb).emb x = x := by
  funext k
  apply Fin.ext
  match k with
  | ⟨0, _⟩ => show 0 + 1 * (x 0).val = (x 0).val; omega
  | ⟨1, _⟩ => show 0 + 1 * (x 1).val = (x 1).val; omega

/-! ## The four waits on a semaphore -/

variable {d : Dev nD} {L : grid0.Coords}

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- The tile's own dues, whatever of its own transfers it has already waited for. -/
def Owed (c : Thread nD τ) (O : CellTallies nD τ sig (HIx 1)) (W : Waits sig (HIx 1)) : sProp 𝕄 :=
  iprop(∃ W', ⌜∀ p ∈ W', p ∈ W ∨ p.2 = none⌝ ∗ owes c O W')

variable {O : CellTallies nD τ sig (HIx 1)} {W : Waits sig (HIx 1)}

abbrev Prg (F : FTy → Type) [FloatOps F] (L : grid0.Coords) : Type 1 := Prog (TpuEff nD τ sig (Elt F) Λ₀ (.scVector (cV L) (jV L))) PUnit

/-- Four members waited for, one after the other: all four have arrived. -/
theorem waits4 {s : DmaSem sig} {p N : ℕ} {Gs : List (sProp 𝕄)} (hGs : Gs.length = 4) (hN : 0 < N)
    {a₀ a₁ a₂ a₃ b₀ b₁ b₂ b₃ : Space} {s₀ s₁ s₂ s₃ r₀ r₁ r₂ r₃ : Shape} {e₀ e₁ e₂ e₃ f₀ f₁ f₂ f₃ : EltTy}
    {src₀ : Memref sig .scVector a₀ s₀ e₀} {dst₀ : Memref sig .scVector b₀ r₀ f₀} {h₀ : src₀.view.WordExact} {k₀ : dst₀.view.WordExact}
    {src₁ : Memref sig .scVector a₁ s₁ e₁} {dst₁ : Memref sig .scVector b₁ r₁ f₁} {h₁ : src₁.view.WordExact} {k₁ : dst₁.view.WordExact}
    {src₂ : Memref sig .scVector a₂ s₂ e₂} {dst₂ : Memref sig .scVector b₂ r₂ f₂} {h₂ : src₂.view.WordExact} {k₂ : dst₂.view.WordExact}
    {src₃ : Memref sig .scVector a₃ s₃ e₃} {dst₃ : Memref sig .scVector b₃ r₃ f₃} {h₃ : src₃.view.WordExact} {k₃ : dst₃.view.WordExact}
    (J₀ : dst₀.view.dmaCredit = p * N) (J₁ : dst₁.view.dmaCredit = p * N) (J₂ : dst₂.view.dmaCredit = p * N) (J₃ : dst₃.view.dmaCredit = p * N)
    {k : PUnit → Prg F L} {Q : PUnit → sProp 𝕄} :
    iprop(Bundle EC (thr d L) (.dma s) (default : HIx 1) p N 4 Gs 0 ∗ Owed (thr d L) O W ∗ Transfers.MayWaits (thr d L) (default : HIx 1) O)
      ⊢ iprop((iprop(seps Gs ∗ semVal (thr d L, .dma s) 0 ∗ Owed (thr d L) O W)
            -∗ wp frame (wpE (defs₀ (F := F)) 𝒱₀ (thr d L) none) Set.univ (k ⟨⟩) Q)
          -∗ wp frame (wpE (defs₀ (F := F)) 𝒱₀ (thr d L) none) Set.univ
            ((Prog.lift (.waitDma2 s src₀ dst₀ h₀ k₀) >>= fun _ => Prog.lift (.waitDma2 s src₁ dst₁ h₁ k₁) >>= fun _ =>
              Prog.lift (.waitDma2 s src₂ dst₂ h₂ k₂) >>= fun _ => Prog.lift (.waitDma2 s src₃ dst₃ h₃ k₃) >>= k : Prg F L)) Q) := by
  have u0 : 0 < Gs.length := by omega
  have u1 : 1 < Gs.length := by omega
  have u2 : 2 < Gs.length := by omega
  unfold Owed
  iintro ⟨HB, ⟨%W₀, %hW₀, HO⟩, #Hmw⟩ Hk
  simp only [wp_bind]
  iapply (wp_waitSome EC (thr d L) 𝒱₀ none (sem := s) (default : HIx 1) (Gs := Gs) (u := 0) J₀ u0) $$ [HB HO]
  · isplitl [HB]; · iexact HB
    isplitl [HO]; · iexact HO
    iapply (Transfers.MayWaits.elim (SemLoc.dma s)) $$ Hmw
  iintro ⟨HB, HO⟩
  iapply (wp_waitSome EC (thr d L) 𝒱₀ none (sem := s) (default : HIx 1) (Gs := Gs) (u := 1) J₁ u1) $$ [HB HO]
  · isplitl [HB]; · iexact HB
    isplitl [HO]; · iexact HO
    iapply (Transfers.MayWaits.elim (SemLoc.dma s)) $$ Hmw
  iintro ⟨HB, HO⟩
  iapply (wp_waitSome EC (thr d L) 𝒱₀ none (sem := s) (default : HIx 1) (Gs := Gs) (u := 2) J₂ u2) $$ [HB HO]
  · isplitl [HB]; · iexact HB
    isplitl [HO]; · iexact HO
    iapply (Transfers.MayWaits.elim (SemLoc.dma s)) $$ Hmw
  iintro ⟨HB, HO⟩
  iapply (wp_waitAll EC (thr d L) 𝒱₀ none (sem := s) (default : HIx 1) (Gs := Gs) (u := 3) J₃ hN hGs rfl) $$ [HB HO]
  · isplitl [HB]; · iexact HB
    isplitl [HO]; · iexact HO
    iapply (Transfers.MayWaits.elim (SemLoc.dma s)) $$ Hmw
  iintro ⟨HG, Hv, HO⟩
  iapply Hk
  isplitl [HG]; · iexact HG
  isplitl [Hv]; · iexact Hv
  iexists _
  isplitr
  swap; · iexact HO
  ipureintro
  intro x hx
  simp only [Finset.mem_insert, Set.mem_insert_iff] at hx
  rcases hx with rfl | rfl | rfl | rfl | hx
  · exact Or.inr rfl
  · exact Or.inr rfl
  · exact Or.inr rfl
  · exact Or.inr rfl
  · exact hW₀ x hx

/-! ## The four gathers of a chunk -/

/-- What a row, a chunk and a tile's list count for on a semaphore. -/
theorem row_credit : RefSig.bitCredit (S64x128.rowShape (0 : Fin 2)) .f32 = 4096 := by decide +kernel
theorem slot_credit : RefSig.bitCredit S64x128 .f32 = 64 * 4096 := by decide +kernel
theorem out_credit : RefSig.bitCredit S64x128 .f32 = 1 * 262144 := by decide +kernel
theorem list_credit : RefSig.bitCredit S512 .i32 = 1 * 16384 := by decide +kernel

/-- The tile's first place in the lists. -/
def base (L : grid0.Coords) : ℕ := 1024 * (L 1).val + 512 * (L 0).val

theorem base_le (L : grid0.Coords) : base L + 512 ≤ 16384 := by
  have h0 : (L 0).val < 2 := (L 0).isLt
  have h1 : (L 1).val < 16 := (L 1).isLt
  unfold base; omega

/-- A share of the four tables and of the tile's four lists, at the lists' numbers. -/
def Tabs (d : Dev nD) (L : grid0.Coords) (A : Ins F) (q qo : PosShare TreeShare) : sProp 𝕄 :=
  iprop(((T0.view.loc (thr d L) ↦[Finset.univ]{q} A.t0) ∗ X0.view.loc (thr d L) ↦[Finset.univ]{qo} tileIx A.x0 (base L))
    ∗ ((T1.view.loc (thr d L) ↦[Finset.univ]{q} A.t1) ∗ X1.view.loc (thr d L) ↦[Finset.univ]{qo} tileIx A.x1 (base L))
    ∗ ((T2.view.loc (thr d L) ↦[Finset.univ]{q} A.t2) ∗ X2.view.loc (thr d L) ↦[Finset.univ]{qo} tileIx A.x2 (base L))
    ∗ ((T3.view.loc (thr d L) ↦[Finset.univ]{q} A.t3) ∗ X3.view.loc (thr d L) ↦[Finset.univ]{qo} tileIx A.x3 (base L)))

/-- Slot `b` of a buffer, at anything. -/
def anySlot (d : Dev nD) (L : grid0.Coords) (B : Memref sig .scVector .vmem S64x128 .f32) : sProp 𝕄 :=
  iprop(∃ g, B.view.loc (thr d L) ↦[B.view.set]{fullShare} g)

/-- What the four gathers of the chunk at place `a` bring back. -/
def Fetched (d : Dev nD) (L : grid0.Coords) (A : Ins F) (q qo : PosShare TreeShare) (b : ℕ)
    (hb : ∀ a, (![b, 0, 0] : Fin 3 → ℕ) a + S1x64x128.size a ≤ S2x64x128.size a) (a : ℕ) : List (sProp 𝕄) :=
  [GD (thr d L) T0 X0 (slot B0 b hb) q qo A.t0 (tileIx A.x0 (base L)) (wrows A.w0 (base L + a)),
   GD (thr d L) T1 X1 (slot B1 b hb) q qo A.t1 (tileIx A.x1 (base L)) (wrows A.w1 (base L + a)),
   GD (thr d L) T2 X2 (slot B2 b hb) q qo A.t2 (tileIx A.x2 (base L)) (wrows A.w2 (base L + a)),
   GD (thr d L) T3 X3 (slot B3 b hb) q qo A.t3 (tileIx A.x3 (base L)) (wrows A.w3 (base L + a))]

/-- The four slots, at anything. -/
def Free (d : Dev nD) (L : grid0.Coords) (b : ℕ) (hb : ∀ a, (![b, 0, 0] : Fin 3 → ℕ) a + S1x64x128.size a ≤ S2x64x128.size a) : sProp 𝕄 :=
  iprop(anySlot d L (slot B0 b hb) ∗ anySlot d L (slot B1 b hb) ∗ anySlot d L (slot B2 b hb) ∗ anySlot d L (slot B3 b hb))

/-- The four gathers of a chunk, issued. -/
theorem gathers4 (A : Ins F) (hA : A.Ok) {q qo : PosShare TreeShare} {b : ℕ} {hb} {hs} {off : Fin 1 → ℕ} {ho} (a : ℕ) (h : off = ![a]) (ha : a + 64 ≤ 512)
    {k : PUnit → Prg F L} {Q : PUnit → sProp 𝕄} :
    iprop(Tabs d L A q qo ∗ Free d L b hb ∗ semVal (thr d L, .dma (gsem b hs)) 0)
      ⊢ iprop((Bundle EC (thr d L) (.dma (gsem b hs)) (default : HIx 1) 64 4096 4 (Fetched d L A q qo b hb a) 0
            -∗ wp frame (wpE (defs₀ (F := F)) 𝒱₀ (thr d L) none) Set.univ (k ⟨⟩) Q)
          -∗ wp frame (wpE (defs₀ (F := F)) 𝒱₀ (thr d L) none) Set.univ
            ((SparseCore.enqueueIndirectGather rfl (T0.slice (Rect.unit (s := S50000x128) ![0, 0] S50000x128.size inb_S50000x128_S50000x128_0_0) (fun _ => rfl))
                (slot B0 b hb) gathers_S50000x128_S64x128 (X0.slice (Rect.unit (s := S512) off S64.size ho) (fun _ => rfl)) rfl (gsem b hs) (View.wordExact_bits rfl) rfl (Or.inl rfl) >>= fun _ =>
              SparseCore.enqueueIndirectGather rfl (T1.slice (Rect.unit (s := S50000x128) ![0, 0] S50000x128.size inb_S50000x128_S50000x128_0_0) (fun _ => rfl))
                (slot B1 b hb) gathers_S50000x128_S64x128 (X1.slice (Rect.unit (s := S512) off S64.size ho) (fun _ => rfl)) rfl (gsem b hs) (View.wordExact_bits rfl) rfl (Or.inl rfl) >>= fun _ =>
              SparseCore.enqueueIndirectGather rfl (T2.slice (Rect.unit (s := S100000x128) ![0, 0] S100000x128.size inb_S100000x128_S100000x128_0_0) (fun _ => rfl))
                (slot B2 b hb) gathers_S100000x128_S64x128 (X2.slice (Rect.unit (s := S512) off S64.size ho) (fun _ => rfl)) rfl (gsem b hs) (View.wordExact_bits rfl) rfl (Or.inl rfl) >>= fun _ =>
              SparseCore.enqueueIndirectGather rfl (T3.slice (Rect.unit (s := S100000x128) ![0, 0] S100000x128.size inb_S100000x128_S100000x128_0_0) (fun _ => rfl))
                (slot B3 b hb) gathers_S100000x128_S64x128 (X3.slice (Rect.unit (s := S512) off S64.size ho) (fun _ => rfl)) rfl (gsem b hs) (View.wordExact_bits rfl) rfl (Or.inl rfl) >>= k : Prg F L)) Q) := by
  obtain ⟨hA0, hA1, hA2, hA3⟩ := hA
  have hB := base_le L
  unfold Tabs Free anySlot
  iintro ⟨⟨⟨HT0, HX0⟩, ⟨HT1, HX1⟩, ⟨HT2, HX2⟩, ⟨HT3, HX3⟩⟩, ⟨HF0, HF1, HF2, HF3⟩, Hv⟩ Hk
  imod (bundle_alloc EC (thr d L) (sm := .dma (gsem b hs)) (default : HIx 1) 64 4096 4 (E := Set.univ)) $$ Hv with HB
  simp only [wp_bind]
  iapply (gather_step (c := thr d L) (T := T0) (X := X0) (dst := slot B0 b hb) (ft := A.t0) (fx := tileIx A.x0 (base L)) (wrows A.w0 (base L + a)) (default : HIx 1) (p := 64) (N := 4096) (m := 4) rfl
    (by intro j; exact row_credit) (by intro x; exact hA0 _) (chunk_payload (z := 50000) gathers_S50000x128_S64x128 A.t0 _ (funext fun x => congrArg A.t0 (table_emb x)) A.x0 _ ha hB
      (fun y => congrArg (tileIx A.x0 (base L)) (list_emb a h ha y)) _ _) (Gs := (Fetched d L A q qo b hb a).take 0) (by simp [Fetched])) $$ [HB HT0 HX0 HF0]
  · isplitl [HB]; · iexact HB
    isplitl [HT0]; · iexact HT0
    isplitl [HX0]; · iexact HX0
    iexact HF0
  iintro HB
  iapply (gather_step (c := thr d L) (T := T1) (X := X1) (dst := slot B1 b hb) (ft := A.t1) (fx := tileIx A.x1 (base L)) (wrows A.w1 (base L + a)) (default : HIx 1) (p := 64) (N := 4096) (m := 4) rfl
    (by intro j; exact row_credit) (by intro x; exact hA1 _) (chunk_payload (z := 50000) gathers_S50000x128_S64x128 A.t1 _ (funext fun x => congrArg A.t1 (table_emb x)) A.x1 _ ha hB
      (fun y => congrArg (tileIx A.x1 (base L)) (list_emb a h ha y)) _ _) (Gs := (Fetched d L A q qo b hb a).take 1) (by simp [Fetched])) $$ [HB HT1 HX1 HF1]
  · isplitl [HB]; · iexact HB
    isplitl [HT1]; · iexact HT1
    isplitl [HX1]; · iexact HX1
    iexact HF1
  iintro HB
  iapply (gather_step (c := thr d L) (T := T2) (X := X2) (dst := slot B2 b hb) (ft := A.t2) (fx := tileIx A.x2 (base L)) (wrows A.w2 (base L + a)) (default : HIx 1) (p := 64) (N := 4096) (m := 4) rfl
    (by intro j; exact row_credit) (by intro x; exact hA2 _) (chunk_payload (z := 100000) gathers_S100000x128_S64x128 A.t2 _ (funext fun x => congrArg A.t2 (table_emb x)) A.x2 _ ha hB
      (fun y => congrArg (tileIx A.x2 (base L)) (list_emb a h ha y)) _ _) (Gs := (Fetched d L A q qo b hb a).take 2) (by simp [Fetched])) $$ [HB HT2 HX2 HF2]
  · isplitl [HB]; · iexact HB
    isplitl [HT2]; · iexact HT2
    isplitl [HX2]; · iexact HX2
    iexact HF2
  iintro HB
  iapply (gather_step (c := thr d L) (T := T3) (X := X3) (dst := slot B3 b hb) (ft := A.t3) (fx := tileIx A.x3 (base L)) (wrows A.w3 (base L + a)) (default : HIx 1) (p := 64) (N := 4096) (m := 4) rfl
    (by intro j; exact row_credit) (by intro x; exact hA3 _) (chunk_payload (z := 100000) gathers_S100000x128_S64x128 A.t3 _ (funext fun x => congrArg A.t3 (table_emb x)) A.x3 _ ha hB
      (fun y => congrArg (tileIx A.x3 (base L)) (list_emb a h ha y)) _ _) (Gs := (Fetched d L A q qo b hb a).take 3) (by simp [Fetched])) $$ [HB HT3 HX3 HF3]
  · isplitl [HB]; · iexact HB
    isplitl [HT3]; · iexact HT3
    isplitl [HX3]; · iexact HX3
    iexact HF3
  iintro HB
  iapply Hk
  iexact HB

/-! ## The four copies of a chunk -/

/-- Rows `lo` up to `hi` of each of the four results, at the contents `f`. -/
def Rows (d : Dev nD) (L : grid0.Coords) (lo hi : ℕ) (f₀ f₁ f₂ f₃ : S16384x128.Idx → Elt F .f32) : sProp 𝕄 :=
  iprop((O0.view.loc (thr d L) ↦[rowsSet lo hi]{fullShare} f₀) ∗ (O1.view.loc (thr d L) ↦[rowsSet lo hi]{fullShare} f₁)
    ∗ (O2.view.loc (thr d L) ↦[rowsSet lo hi]{fullShare} f₂) ∗ (O3.view.loc (thr d L) ↦[rowsSet lo hi]{fullShare} f₃))

/-- What the four copies of the chunk at place `a` leave. -/
def Sent (d : Dev nD) (L : grid0.Coords) (A : Ins F) (b : ℕ)
    (hb : ∀ a, (![b, 0, 0] : Fin 3 → ℕ) a + S1x64x128.size a ≤ S2x64x128.size a) (a : ℕ) : List (sProp 𝕄) :=
  [iprop((O0.view.loc (thr d L) ↦[rowsSet a (a + 64)]{fullShare} A.w0) ∗ anySlot d L (slot B0 b hb)),
   iprop((O1.view.loc (thr d L) ↦[rowsSet a (a + 64)]{fullShare} A.w1) ∗ anySlot d L (slot B1 b hb)),
   iprop((O2.view.loc (thr d L) ↦[rowsSet a (a + 64)]{fullShare} A.w2) ∗ anySlot d L (slot B2 b hb)),
   iprop((O3.view.loc (thr d L) ↦[rowsSet a (a + 64)]{fullShare} A.w3) ∗ anySlot d L (slot B3 b hb))]

/-- All of it back: the rows at the results, and the slots. -/
theorem sent_back (A : Ins F) {b : ℕ} {hb} {a : ℕ} :
    seps (Sent d L A b hb a) ⊢ iprop(Rows d L a (a + 64) A.w0 A.w1 A.w2 A.w3 ∗ Free d L b hb) := by
  unfold Sent Rows Free
  simp only [seps]
  iintro ⟨⟨H0, F0⟩, ⟨H1, F1⟩, ⟨H2, F2⟩, ⟨H3, F3⟩, -⟩
  isplitl [H0 H1 H2 H3]
  · isplitl [H0]; · iexact H0
    isplitl [H1]; · iexact H1
    isplitl [H2]; · iexact H2
    iexact H3
  isplitl [F0]; · iexact F0
  isplitl [F1]; · iexact F1
  isplitl [F2]; · iexact F2
  iexact F3

theorem chunk_credit : RefSig.bitCredit S64x128 .f32 = 262144 := by decide +kernel

/-- A chunk counts, on the semaphore of its copy out, for its bits. -/
theorem chunk_amount {sp : Space} (v : Memref sig .scVector sp S64x128 .f32) (sm : DmaSem sig) : v.view.amount (.dma sm) = 262144 := chunk_credit

/-- The four copies of a chunk, issued. -/
theorem copies4 (A : Ins F) {q qo : PosShare TreeShare} {b : ℕ} {hb} {hs} {off : Fin 2 → ℕ} {ho} {f₀ f₁ f₂ f₃ : S16384x128.Idx → Elt F .f32}
    (a : ℕ) (h : off = ![base L + a, 0]) (ha : a + 64 ≤ 512) {k : PUnit → Prg F L} {Q : PUnit → sProp 𝕄} :
    iprop(seps (Fetched d L A q qo b hb a) ∗ Rows d L (base L + a) (base L + a + 64) f₀ f₁ f₂ f₃ ∗ semVal (thr d L, .dma (osem b hs)) 0)
      ⊢ iprop((iprop(Bundle EC (thr d L) (.dma (osem b hs)) (default : HIx 1) 1 262144 4 (Sent d L A b hb (base L + a)) 0 ∗ Tabs d L A q qo)
            -∗ wp frame (wpE (defs₀ (F := F)) 𝒱₀ (thr d L) none) Set.univ (k ⟨⟩) Q)
          -∗ wp frame (wpE (defs₀ (F := F)) 𝒱₀ (thr d L) none) Set.univ
            ((Prog.lift (.enqueueDma (slot B0 b hb) (.here (O0.slice (Rect.unit (s := S16384x128) off S64x128.size ho) (fun _ => rfl))) (.dma (osem b hs)) ((View.wordExact_bits rfl).reshape _ _) (View.wordExact_bits rfl) ⟨Or.inl rfl, trivial⟩) >>= fun _ =>
              Prog.lift (.enqueueDma (slot B1 b hb) (.here (O1.slice (Rect.unit (s := S16384x128) off S64x128.size ho) (fun _ => rfl))) (.dma (osem b hs)) ((View.wordExact_bits rfl).reshape _ _) (View.wordExact_bits rfl) ⟨Or.inl rfl, trivial⟩) >>= fun _ =>
              Prog.lift (.enqueueDma (slot B2 b hb) (.here (O2.slice (Rect.unit (s := S16384x128) off S64x128.size ho) (fun _ => rfl))) (.dma (osem b hs)) ((View.wordExact_bits rfl).reshape _ _) (View.wordExact_bits rfl) ⟨Or.inl rfl, trivial⟩) >>= fun _ =>
              Prog.lift (.enqueueDma (slot B3 b hb) (.here (O3.slice (Rect.unit (s := S16384x128) off S64x128.size ho) (fun _ => rfl))) (.dma (osem b hs)) ((View.wordExact_bits rfl).reshape _ _) (View.wordExact_bits rfl) ⟨Or.inl rfl, trivial⟩) >>= k : Prg F L)) Q) := by
  have hB := base_le L
  unfold Fetched Rows
  simp only [seps]
  unfold GD
  iintro ⟨⟨⟨S0, HT0, HX0⟩, ⟨S1, HT1, HX1⟩, ⟨S2, HT2, HX2⟩, ⟨S3, HT3, HX3⟩, -⟩, ⟨R0, R1, R2, R3⟩, Hv⟩ Hk
  imod (bundle_alloc EC (thr d L) (sm := .dma (osem b hs)) (default : HIx 1) 1 262144 4 (E := Set.univ)) $$ Hv with HB
  simp only [wp_bind]
  iapply (copy_step (c := thr d L) (O := O0) (rO := Rect.unit (s := S16384x128) off S64x128.size ho) (hO := fun _ => rfl) (src := slot B0 b hb) (f := f₀) (W := A.w0) rfl
    (wrows A.w0 (base L + a)) (rowsSet (base L + a) (base L + a + 64)) (default : HIx 1) (N := 262144) (m := 4) (chunk_amount _ _) ((View.set_slice_whole _ _).trans (window_set (base L + a) h))
    (funext fun x => congrArg A.w0 (window_emb (base L + a) h (by omega) x)) (Gs := (Sent d L A b hb (base L + a)).take 0) (by simp [Sent])) $$ [HB S0 R0]
  · isplitl [HB]; · iexact HB
    isplitl [S0]; · iexact S0
    iexact R0
  iintro HB
  iapply (copy_step (c := thr d L) (O := O1) (rO := Rect.unit (s := S16384x128) off S64x128.size ho) (hO := fun _ => rfl) (src := slot B1 b hb) (f := f₁) (W := A.w1) rfl
    (wrows A.w1 (base L + a)) (rowsSet (base L + a) (base L + a + 64)) (default : HIx 1) (N := 262144) (m := 4) (chunk_amount _ _) ((View.set_slice_whole _ _).trans (window_set (base L + a) h))
    (funext fun x => congrArg A.w1 (window_emb (base L + a) h (by omega) x)) (Gs := (Sent d L A b hb (base L + a)).take 1) (by simp [Sent])) $$ [HB S1 R1]
  · isplitl [HB]; · iexact HB
    isplitl [S1]; · iexact S1
    iexact R1
  iintro HB
  iapply (copy_step (c := thr d L) (O := O2) (rO := Rect.unit (s := S16384x128) off S64x128.size ho) (hO := fun _ => rfl) (src := slot B2 b hb) (f := f₂) (W := A.w2) rfl
    (wrows A.w2 (base L + a)) (rowsSet (base L + a) (base L + a + 64)) (default : HIx 1) (N := 262144) (m := 4) (chunk_amount _ _) ((View.set_slice_whole _ _).trans (window_set (base L + a) h))
    (funext fun x => congrArg A.w2 (window_emb (base L + a) h (by omega) x)) (Gs := (Sent d L A b hb (base L + a)).take 2) (by simp [Sent])) $$ [HB S2 R2]
  · isplitl [HB]; · iexact HB
    isplitl [S2]; · iexact S2
    iexact R2
  iintro HB
  iapply (copy_step (c := thr d L) (O := O3) (rO := Rect.unit (s := S16384x128) off S64x128.size ho) (hO := fun _ => rfl) (src := slot B3 b hb) (f := f₃) (W := A.w3) rfl
    (wrows A.w3 (base L + a)) (rowsSet (base L + a) (base L + a + 64)) (default : HIx 1) (N := 262144) (m := 4) (chunk_amount _ _) ((View.set_slice_whole _ _).trans (window_set (base L + a) h))
    (funext fun x => congrArg A.w3 (window_emb (base L + a) h (by omega) x)) (Gs := (Sent d L A b hb (base L + a)).take 3) (by simp [Sent])) $$ [HB S3 R3]
  · isplitl [HB]; · iexact HB
    isplitl [S3]; · iexact S3
    iexact R3
  iintro HB
  iapply Hk
  isplitl [HB]; · iexact HB
  unfold Tabs
  isplitl [HT0 HX0]; · isplitl [HT0] <;> iassumption
  isplitl [HT1 HX1]; · isplitl [HT1] <;> iassumption
  isplitl [HT2 HX2]; · isplitl [HT2] <;> iassumption
  isplitl [HT3] <;> iassumption

end Cert.Proof
-- ==== Proof.Tile.lean ====
/-
  ONE TILE'S RUN: the trip of its loop over pairs of chunks, and the whole of it, with the values.
-/
module

public import proofs.«01_k».proof.Proof.Chunks

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The loop's state -/

theorem trips_eq : k0_t1_loop.trips = 4 := by decide +kernel
theorem cond1_iff : ∀ t : Fin k0_t1_loop.trips, k0_cond1 t = 1#1 ↔ t.val < 3 := by decide +kernel
theorem cond2_iff : ∀ t : Fin k0_t1_loop.trips, k0_cond2 t = 1#1 ↔ t.val < 3 := by decide +kernel

variable {d : Dev nD} {L : grid0.Coords} {O : CellTallies nD τ sig (HIx 1)} {W : Waits sig (HIx 1)}

abbrev hb0 : ∀ a, (![0, 0, 0] : Fin 3 → ℕ) a + S1x64x128.size a ≤ S2x64x128.size a := inb_S2x64x128_S1x64x128_0_0_0
abbrev hb1 : ∀ a, (![1, 0, 0] : Fin 3 → ℕ) a + S1x64x128.size a ≤ S2x64x128.size a := inb_S2x64x128_S1x64x128_1_0_0
abbrev hs0 : ∀ a, (![0] : Fin 1 → ℕ) a + S1.size a ≤ S2.size a := inb_S2_S1_0
abbrev hs1 : ∀ a, (![1] : Fin 1 → ℕ) a + S1.size a ≤ S2.size a := inb_S2_S1_1

/-- The trip's text, at this tile's buffers. -/
abbrev tripAt (F : FTy → Type) [FloatOps F] (L : grid0.Coords) (v2 : BitVec 32) :=
  k0_t1_body (F := F) L T0 (Memref.isWhole_whole _) T1 (Memref.isWhole_whole _) T2 (Memref.isWhole_whole _) T3 (Memref.isWhole_whole _) A2 (Memref.isWhole_whole _) A3 (Memref.isWhole_whole _) A0 (Memref.isWhole_whole _) A1 (Memref.isWhole_whole _) O0 (Memref.isWhole_whole _) O1 (Memref.isWhole_whole _) O2 (Memref.isWhole_whole _) O3 (Memref.isWhole_whole _) X2 (Memref.isWhole_whole _) X3 (Memref.isWhole_whole _) X0 (Memref.isWhole_whole _) X1 (Memref.isWhole_whole _) B0 (Memref.isWhole_whole _) B1 (Memref.isWhole_whole _) B2 (Memref.isWhole_whole _) B3 (Memref.isWhole_whole _)
    cc0_scratch8 cc0_scratch9 cc0_scoped0 cc0_scoped1 cc0_scoped2 cc0_scoped3 v2

/-- The chunk at place `a` is being fetched into slot `b`. -/
def Fetching (d : Dev nD) (L : grid0.Coords) (A : Ins F) (q qo : PosShare TreeShare) (b : ℕ) (hb : ∀ a, (![b, 0, 0] : Fin 3 → ℕ) a + S1x64x128.size a ≤ S2x64x128.size a)
    (hs : ∀ a, (![b] : Fin 1 → ℕ) a + S1.size a ≤ S2.size a) (a : ℕ) : sProp 𝕄 :=
  iprop(Bundle EC (thr d L) (.dma (gsem b hs)) (default : HIx 1) 64 4096 4 (Fetched d L A q qo b hb a) 0 ∗ semVal (thr d L, .dma (osem b hs)) 0)

/-- The chunk at place `a` is being sent out of slot `b`. -/
def Sending (d : Dev nD) (L : grid0.Coords) (A : Ins F) (q qo : PosShare TreeShare) (b : ℕ) (hb : ∀ a, (![b, 0, 0] : Fin 3 → ℕ) a + S1x64x128.size a ≤ S2x64x128.size a)
    (hs : ∀ a, (![b] : Fin 1 → ℕ) a + S1.size a ≤ S2.size a) (a : ℕ) : sProp 𝕄 :=
  iprop(Tabs d L A q qo ∗ semVal (thr d L, .dma (gsem b hs)) 0
    ∗ Bundle EC (thr d L) (.dma (osem b hs)) (default : HIx 1) 1 262144 4 (Sent d L A b hb (base L + a)) 0)

theorem rows_split {lo mid hi : ℕ} (h : lo ≤ mid) (h' : mid ≤ hi) (f₀ f₁ f₂ f₃ : S16384x128.Idx → Elt F .f32) :
    Rows d L lo hi f₀ f₁ f₂ f₃ ⊢ iprop(Rows d L lo mid f₀ f₁ f₂ f₃ ∗ Rows d L mid hi f₀ f₁ f₂ f₃) := by
  unfold Rows
  iintro ⟨H0, H1, H2, H3⟩
  ihave H0 := (held_split (ℓ := O0.view.loc (thr d L)) (rowsSet_union h h') (rowsSet_disjoint _ _ _) f₀).1 $$ H0
  ihave H1 := (held_split (ℓ := O1.view.loc (thr d L)) (rowsSet_union h h') (rowsSet_disjoint _ _ _) f₁).1 $$ H1
  ihave H2 := (held_split (ℓ := O2.view.loc (thr d L)) (rowsSet_union h h') (rowsSet_disjoint _ _ _) f₂).1 $$ H2
  ihave H3 := (held_split (ℓ := O3.view.loc (thr d L)) (rowsSet_union h h') (rowsSet_disjoint _ _ _) f₃).1 $$ H3
  icases H0 with ⟨H0, J0⟩
  icases H1 with ⟨H1, J1⟩
  icases H2 with ⟨H2, J2⟩
  icases H3 with ⟨H3, J3⟩
  isplitl [H0 H1 H2 H3]
  · isplitl [H0]; · iexact H0
    isplitl [H1]; · iexact H1
    isplitl [H2]; · iexact H2
    iexact H3
  isplitl [J0]; · iexact J0
  isplitl [J1]; · iexact J1
  isplitl [J2]; · iexact J2
  iexact J3

theorem rows_join {lo mid mid' hi hi' : ℕ} (h : lo ≤ mid) (h' : mid ≤ hi) (e : mid' = mid) (e' : hi' = hi) (f₀ f₁ f₂ f₃ : S16384x128.Idx → Elt F .f32) :
    iprop(Rows d L lo mid f₀ f₁ f₂ f₃ ∗ Rows d L mid' hi f₀ f₁ f₂ f₃) ⊢ Rows d L lo hi' f₀ f₁ f₂ f₃ := by
  subst e e'
  unfold Rows
  iintro ⟨⟨H0, H1, H2, H3⟩, ⟨J0, J1, J2, J3⟩⟩
  isplitl [H0 J0]
  · iapply (held_split (ℓ := O0.view.loc (thr d L)) (rowsSet_union h h') (rowsSet_disjoint _ _ _) f₀).2; isplitl [H0] <;> iassumption
  isplitl [H1 J1]
  · iapply (held_split (ℓ := O1.view.loc (thr d L)) (rowsSet_union h h') (rowsSet_disjoint _ _ _) f₁).2; isplitl [H1] <;> iassumption
  isplitl [H2 J2]
  · iapply (held_split (ℓ := O2.view.loc (thr d L)) (rowsSet_union h h') (rowsSet_disjoint _ _ _) f₂).2; isplitl [H2] <;> iassumption
  iapply (held_split (ℓ := O3.view.loc (thr d L)) (rowsSet_union h h') (rowsSet_disjoint _ _ _) f₃).2; isplitl [H3] <;> iassumption

/-- Before trip `t` (after the last one, at `t = 4`): the rows written, those not yet, and both slots. -/
def Inv (d : Dev nD) (L : grid0.Coords) (A : Ins F) (q₀ q₁ r₀ r₁ : PosShare TreeShare) (f₀ f₁ f₂ f₃ : S16384x128.Idx → Elt F .f32)
    (O : CellTallies nD τ sig (HIx 1)) (W : Waits sig (HIx 1)) (t : ℕ) : sProp 𝕄 :=
  if t < 4 then
    iprop(Fetching d L A q₀ r₀ 0 hb0 hs0 (128 * t) ∗ Fetching d L A q₁ r₁ 1 hb1 hs1 (128 * t + 64)
      ∗ Rows d L (base L) (base L + 128 * t) A.w0 A.w1 A.w2 A.w3 ∗ Rows d L (base L + 128 * t) (base L + 512) f₀ f₁ f₂ f₃ ∗ Owed (thr d L) O W)
  else
    iprop(Sending d L A q₀ r₀ 0 hb0 hs0 384 ∗ Sending d L A q₁ r₁ 1 hb1 hs1 448
      ∗ Rows d L (base L) (base L + 384) A.w0 A.w1 A.w2 A.w3 ∗ Owed (thr d L) O W)

theorem off3_0 (t : Fin k0_t1_loop.trips) : k0_off3 L t 0#32 = ![base L + 128 * t.val, 0] :=
  (k0_off3_eq L t 0).trans (congrArg (fun n => ![n, 0]) (by unfold base; simp))
theorem off3_1 (t : Fin k0_t1_loop.trips) : k0_off3 L t 1#32 = ![base L + (128 * t.val + 64), 0] :=
  (k0_off3_eq L t 1).trans (congrArg (fun n => ![n, 0]) (by unfold base; simp; omega))
theorem off5 (t : Fin k0_t1_loop.trips) : k0_off5 t = ![128 * t.val + 128] := k0_off5_eq t
theorem off7 (t : Fin k0_t1_loop.trips) : k0_off7 t = ![128 * t.val + 64 + 128] := (k0_off7_eq t).trans (congrArg (fun n => ![n]) (by omega))

theorem wait_eq {sp : Space} {s₀ s₁ : Shape} {Λ : Labels} {p : Proc τ} (sm : DmaSem sig) (src : Memref sig p.kind sp s₀ .f32) (dst : Memref sig p.kind .vmem s₁ .f32)
    (h : src.view.WordExact) (h' : dst.view.WordExact) :
    (SparseCore.waitIndirectGather sm src dst h h' : Prog (TpuEff nD τ sig (Elt F) Λ p) PUnit) = Prog.lift (.waitDma2 sm src dst h h') := rfl

theorem trip (A : Ins F) (hA : A.Ok) {q₀ q₁ r₀ r₁ : PosShare TreeShare} {f₀ f₁ f₂ f₃ : S16384x128.Idx → Elt F .f32}
    (v2 : BitVec 32) (t : Fin k0_t1_loop.trips) :
    iprop(Inv d L A q₀ q₁ r₀ r₁ f₀ f₁ f₂ f₃ O W t.val ∗ Transfers.MayWaits (thr d L) (default : HIx 1) O)
      ⊢ wp frame (wpE (defs₀ (F := F)) 𝒱₀ (thr d L) none) Set.univ (tripAt F L v2 t ()) fun _ =>
          Inv d L A q₀ q₁ r₀ r₁ f₀ f₁ f₂ f₃ O W (t.val + 1) := by
  have ht : t.val < 4 := trips_eq ▸ t.isLt
  have hB := base_le L
  unfold tripAt k0_t1_body
  simp only [k0_part5_eq_skeleton, k0_part6_eq_skeleton, k0_part7_eq_skeleton, k0_part8_eq_skeleton]
  unfold k0_part5_skel k0_part6_skel k0_part7_skel k0_part8_skel
  by_cases h3 : t.val < 3
  · have h1 := (cond1_iff t).2 h3
    have h2 := (cond2_iff t).2 h3
    simp only [dif_pos h1, dif_pos h2, k0_part1_eq_skeleton, k0_part2_eq_skeleton, k0_part3_eq_skeleton, k0_part4_eq_skeleton]
    unfold k0_part1_skel k0_part2_skel k0_part3_skel k0_part4_skel
    simp only [bind_assoc, pure_bind, wait_eq]
    unfold Inv
    simp only [if_pos ht, if_pos (show t.val + 1 < 4 by omega)]
    unfold Fetching
    iintro ⟨⟨⟨HF0, Ho0⟩, ⟨HF1, Ho1⟩, HD, HU, HO⟩, #Hmw⟩
    iapply (waits4 (s := gsem 0 hs0) (p := 64) (N := 4096) (Gs := Fetched d L A q₀ r₀ 0 hb0 (128 * t.val)) rfl (by decide) slot_credit slot_credit slot_credit slot_credit) $$ [HF0 HO]
    · isplitl [HF0]; · iexact HF0
      isplitl [HO]; · iexact HO
      iexact Hmw
    iintro ⟨HG, Hg0, HO⟩
    ihave HU := (rows_split (mid := base L + (128 * t.val) + 64) (by omega) (by omega) f₀ f₁ f₂ f₃) $$ HU
    icases HU with ⟨HP, HU⟩
    iapply (copies4 A (hs := hs0) (128 * t.val) (off3_0 t) (by omega)) $$ [HG HP Ho0]
    · isplitl [HG]; · iexact HG
      isplitl [HP]; · iexact HP
      iexact Ho0
    iintro ⟨HS0, HT0⟩
    iapply (waits4 (s := osem 0 hs0) (p := 1) (N := 262144) (Gs := Sent d L A 0 hb0 (base L + (128 * t.val))) rfl (by decide) out_credit out_credit out_credit out_credit) $$ [HS0 HO]
    · isplitl [HS0]; · iexact HS0
      isplitl [HO]; · iexact HO
      iexact Hmw
    iintro ⟨HS0, Ho0, HO⟩
    ihave HS0 := (sent_back A) $$ HS0
    icases HS0 with ⟨HP, HE0⟩
    ihave HD := (rows_join (lo := base L) (mid := base L + (128 * t.val)) (mid' := base L + (128 * t.val)) (hi := base L + (128 * t.val) + 64) (hi' := base L + (128 * t.val + 64)) (by omega) (by omega) rfl (by omega) A.w0 A.w1 A.w2 A.w3) $$ [HD HP]
    · isplitl [HD]; · iexact HD
      iexact HP
    iapply (gathers4 A hA (hs := hs0) (128 * t.val + 64 + 64) (off5 t) (by omega)) $$ [HT0 HE0 Hg0]
    · isplitl [HT0]; · iexact HT0
      isplitl [HE0]; · iexact HE0
      iexact Hg0
    iintro HF0
    iapply (waits4 (s := gsem 1 hs1) (p := 64) (N := 4096) (Gs := Fetched d L A q₁ r₁ 1 hb1 (128 * t.val + 64)) rfl (by decide) slot_credit slot_credit slot_credit slot_credit) $$ [HF1 HO]
    · isplitl [HF1]; · iexact HF1
      isplitl [HO]; · iexact HO
      iexact Hmw
    iintro ⟨HG, Hg1, HO⟩
    ihave HU := (rows_split (mid := base L + (128 * t.val + 64) + 64) (by omega) (by omega) f₀ f₁ f₂ f₃) $$ HU
    icases HU with ⟨HP, HU⟩
    iapply (copies4 A (hs := hs1) (128 * t.val + 64) (off3_1 t) (by omega)) $$ [HG HP Ho1]
    · isplitl [HG]; · iexact HG
      isplitl [HP]; · iexact HP
      iexact Ho1
    iintro ⟨HS1, HT1⟩
    iapply (waits4 (s := osem 1 hs1) (p := 1) (N := 262144) (Gs := Sent d L A 1 hb1 (base L + (128 * t.val + 64))) rfl (by decide) out_credit out_credit out_credit out_credit) $$ [HS1 HO]
    · isplitl [HS1]; · iexact HS1
      isplitl [HO]; · iexact HO
      iexact Hmw
    iintro ⟨HS1, Ho1, HO⟩
    ihave HS1 := (sent_back A) $$ HS1
    icases HS1 with ⟨HP, HE1⟩
    ihave HD := (rows_join (lo := base L) (mid := base L + (128 * t.val + 64)) (mid' := base L + (128 * t.val + 64)) (hi := base L + (128 * t.val + 64) + 64) (hi' := base L + (128 * t.val + 128)) (by omega) (by omega) rfl (by omega) A.w0 A.w1 A.w2 A.w3) $$ [HD HP]
    · isplitl [HD]; · iexact HD
      iexact HP
    iapply (gathers4 A hA (hs := hs1) (128 * t.val + 128 + 64) (off7 t) (by omega)) $$ [HT1 HE1 Hg1]
    · isplitl [HT1]; · iexact HT1
      isplitl [HE1]; · iexact HE1
      iexact Hg1
    iintro HF1
    simp only [wp_pure]
    imodintro
    rw [show 128 * (t.val + 1) = 128 * t.val + 128 from rfl, show base L + (128 * t.val + 64) + 64 = base L + (128 * t.val + 128) by omega]
    isplitl [HF0 Ho0]; · isplitl [HF0] <;> iassumption
    isplitl [HF1 Ho1]; · isplitl [HF1] <;> iassumption
    isplitl [HD]; · iexact HD
    isplitl [HU]; · iexact HU
    iexact HO
  · have h1 : ¬ k0_cond1 t = 1#1 := fun h => h3 ((cond1_iff t).1 h)
    have h2 : ¬ k0_cond2 t = 1#1 := fun h => h3 ((cond2_iff t).1 h)
    simp only [dif_neg h1, dif_neg h2]
    simp only [bind_assoc, pure_bind, wait_eq]
    unfold Inv
    simp only [if_pos ht, if_neg (show ¬ t.val + 1 < 4 by omega)]
    unfold Fetching Sending
    iintro ⟨⟨⟨HF0, Ho0⟩, ⟨HF1, Ho1⟩, HD, HU, HO⟩, #Hmw⟩
    iapply (waits4 (s := gsem 0 hs0) (p := 64) (N := 4096) (Gs := Fetched d L A q₀ r₀ 0 hb0 (128 * t.val)) rfl (by decide) slot_credit slot_credit slot_credit slot_credit) $$ [HF0 HO]
    · isplitl [HF0]; · iexact HF0
      isplitl [HO]; · iexact HO
      iexact Hmw
    iintro ⟨HG, Hg0, HO⟩
    ihave HU := (rows_split (mid := base L + (128 * t.val) + 64) (by omega) (by omega) f₀ f₁ f₂ f₃) $$ HU
    icases HU with ⟨HP, HU⟩
    iapply (copies4 A (hs := hs0) (128 * t.val) (off3_0 t) (by omega)) $$ [HG HP Ho0]
    · isplitl [HG]; · iexact HG
      isplitl [HP]; · iexact HP
      iexact Ho0
    iintro ⟨HS0, HT0⟩
    iapply (waits4 (s := gsem 1 hs1) (p := 64) (N := 4096) (Gs := Fetched d L A q₁ r₁ 1 hb1 (128 * t.val + 64)) rfl (by decide) slot_credit slot_credit slot_credit slot_credit) $$ [HF1 HO]
    · isplitl [HF1]; · iexact HF1
      isplitl [HO]; · iexact HO
      iexact Hmw
    iintro ⟨HG, Hg1, HO⟩
    ihave HU := (rows_split (mid := base L + (128 * t.val + 64) + 64) (by omega) (by omega) f₀ f₁ f₂ f₃) $$ HU
    icases HU with ⟨HP, HU⟩
    iapply (copies4 A (hs := hs1) (128 * t.val + 64) (off3_1 t) (by omega)) $$ [HG HP Ho1]
    · isplitl [HG]; · iexact HG
      isplitl [HP]; · iexact HP
      iexact Ho1
    iintro ⟨HS1, HT1⟩
    simp only [wp_pure]
    imodintro
    rw [show 384 = 128 * t.val by omega, show 448 = 128 * t.val + 64 by omega]
    isplitl [HT0 Hg0 HS0]
    · isplitl [HT0]; · iexact HT0
      isplitl [Hg0]; · iexact Hg0
      iexact HS0
    isplitl [HT1 Hg1 HS1]
    · isplitl [HT1]; · iexact HT1
      isplitl [Hg1]; · iexact Hg1
      iexact HS1
    isplitl [HD]; · iexact HD
    iexact HO

end Cert.Proof
-- ==== Proof.Body.lean ====
/-
  ONE TILE'S WHOLE RUN, from the tile's own buffers and semaphores: the fetches of its four lists, the two chunks issued
  ahead, the loop, and the last waits.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownRefs ownCells ownBufs ownSems0 mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable {d : Dev nD} {L : grid0.Coords} {O : CellTallies nD τ sig (HIx 1)} {W : Waits sig (HIx 1)}

/-! ## The tile's own buffers and semaphores -/

/-- The tile's eight buffers. -/
def tileRefs (L : grid0.Coords) : List (DevRef τ sig) :=
  [cc0_scratch0, cc0_scratch1, cc0_scratch2, cc0_scratch3, cc0_scratch4, cc0_scratch5, cc0_scratch6, cc0_scratch7].map
    (Proc.scVector (cV L) (jV L)).devRef

/-- The tile's eight semaphores. -/
def tileSems (d : Dev nD) (L : grid0.Coords) : List (GSem nD τ sig) :=
  [gsem 0 hs0, gsem 1 hs1, osem 0 hs0, osem 1 hs1, cc0_scoped0.sem, cc0_scoped1.sem, cc0_scoped2.sem, cc0_scoped3.sem].map
    fun s => (thr d L, .dma s)

theorem tileRefs_sub : (tileRefs L).toFinset ⊆ ownRefs (τ := τ) (.scVector (cV L) (jV L)) := by
  intro b hb
  obtain ⟨r, hr, rfl⟩ := List.mem_map.mp (List.mem_toFinset.mp hb)
  refine SparseCore.Cfg.mem_ownRefs_of_owner (p := Proc.scVector (cV L) (jV L)) ?_
  fin_cases hr <;> rfl

theorem tileRefs_nodup : (tileRefs L).Nodup := by
  have h : ([cc0_scratch0, cc0_scratch1, cc0_scratch2, cc0_scratch3, cc0_scratch4, cc0_scratch5, cc0_scratch6, cc0_scratch7] : List (Ref sig .scVector)).Nodup := by
    decide
  exact List.Nodup.map (Proc.devRef_injective _) h

theorem tileSems_sub : (tileSems d L).toFinset ⊆ ownCells (thr d L) := by
  intro g hg
  obtain ⟨s, hs, rfl⟩ := List.mem_map.mp (List.mem_toFinset.mp hg)
  refine mem_ownCells.mpr ⟨rfl, ?_⟩
  have h : ∀ s ∈ [gsem 0 hs0, gsem 1 hs1, osem 0 hs0, osem 1 hs1, cc0_scoped0.sem, cc0_scoped1.sem, cc0_scoped2.sem, cc0_scoped3.sem],
      (SemLoc.dma s : SemLoc sig).isScoped .scVector = true := by decide +kernel
  exact h s hs

theorem tileSems_nodup : (tileSems d L).Nodup :=
  List.Nodup.map (fun a b e => by simpa using e) (by decide +kernel)

/-- The eight buffers, each at anything, and the rest of the tile's own. -/
theorem ownBufs_V : (ownBufs (thr d L) : sProp 𝕄)
    = iprop(BI.bigSepL (tileRefs L) (fun b => iprop(∃ f, ((d, b) : Loc nD τ sig) ↦{fullShare} f))
        ∗ bigSep (ownRefs (τ := τ) (.scVector (cV L) (jV L)) \ (tileRefs L).toFinset) fun b => iprop(∃ f, ((d, b) : Loc nD τ sig) ↦{fullShare} f)) := by
  unfold SparseCore.Cfg.ownBufs
  refine (bigSep_sdiff_split tileRefs_sub).trans ?_
  rw [BI.bigSep_eq_bigSepL _ tileRefs_nodup]; rfl

/-- The eight semaphores at zero, and the rest of the tile's own. -/
theorem ownSems0_V : (ownSems0 (thr d L) : sProp 𝕄)
    = iprop(BI.bigSepL (tileSems d L) (fun g => semVal g 0) ∗ bigSep (ownCells (thr d L) \ (tileSems d L).toFinset) fun g => semVal g 0) := by
  unfold SparseCore.Cfg.ownSems0
  refine (bigSep_sdiff_split tileSems_sub).trans ?_
  rw [BI.bigSep_eq_bigSepL _ tileSems_nodup]; rfl

/-- A buffer, whole, at anything. -/
def anyBuf (d : Dev nD) (L : grid0.Coords) {s : Shape} {e : EltTy} (B : Memref sig .scVector .vmem s e) : sProp 𝕄 :=
  iprop(∃ f, B.view.loc (thr d L) ↦[B.view.set]{fullShare} f)

theorem bufs_chain : (BI.bigSepL (tileRefs L) (fun b => iprop(∃ f, ((d, b) : Loc nD τ sig) ↦{fullShare} f)) : sProp 𝕄)
    = iprop(anyBuf d L X2 ∗ anyBuf d L X3 ∗ anyBuf d L X0 ∗ anyBuf d L X1 ∗ anyBuf d L B0 ∗ anyBuf d L B1 ∗ anyBuf d L B2 ∗ anyBuf d L B3) := by
  unfold tileRefs anyBuf
  simp only [List.map_cons, List.map_nil, BI.bigSepL_cons_cons, BI.bigSepL_singleton]
  simp only [Memref.view_whole, View.set_whole]; rfl

theorem sems_chain : (BI.bigSepL (tileSems d L) (fun g => semVal g 0) : sProp 𝕄)
    = iprop(semVal (thr d L, .dma (gsem 0 hs0)) 0 ∗ semVal (thr d L, .dma (gsem 1 hs1)) 0 ∗ semVal (thr d L, .dma (osem 0 hs0)) 0
        ∗ semVal (thr d L, .dma (osem 1 hs1)) 0 ∗ semVal (thr d L, .dma cc0_scoped0.sem) 0 ∗ semVal (thr d L, .dma cc0_scoped1.sem) 0
        ∗ semVal (thr d L, .dma cc0_scoped2.sem) 0 ∗ semVal (thr d L, .dma cc0_scoped3.sem) 0) := rfl

/-! ## A row buffer and its two slots -/

theorem slot_set (B : Memref sig .scVector .vmem S2x64x128 .f32) (b : ℕ) (hb) :
    (slot B b hb).view.set = (Rect.unit (s := S2x64x128) ![b, 0, 0] S1x64x128.size hb).set.map B.view.emb := by
  show ((B.view.slice _).reshape _ _).set = _
  rw [View.set_reshape, View.set_slice]

theorem mem_slot {b : ℕ} {hb} (i : S2x64x128.Idx) : i ∈ (Rect.unit (s := S2x64x128) ![b, 0, 0] S1x64x128.size hb).set ↔ (i 0).val = b := by
  have h1 : (i 1).val < 64 := (i 1).isLt
  have h2 : (i 2).val < 128 := (i 2).isLt
  rw [Rect.mem_set_unit]
  constructor
  · intro h
    have := h 0
    change b ≤ (i 0).val ∧ (i 0).val < b + 1 at this
    omega
  · intro h a
    match a with
    | ⟨0, _⟩ => show b ≤ (i 0).val ∧ (i 0).val < b + 1; omega
    | ⟨1, _⟩ => show 0 ≤ (i 1).val ∧ (i 1).val < 0 + 64; omega
    | ⟨2, _⟩ => show 0 ≤ (i 2).val ∧ (i 2).val < 0 + 128; omega

theorem slots_disjoint (B : Memref sig .scVector .vmem S2x64x128 .f32) : Disjoint (slot B 0 hb0).view.set (slot B 1 hb1).view.set := by
  rw [slot_set, slot_set, Finset.disjoint_map]
  exact Finset.disjoint_left.mpr fun i h h' => by rw [mem_slot] at h h'; omega

theorem slots_union (B : Memref sig .scVector .vmem S2x64x128 .f32) : (slot B 0 hb0).view.set ∪ (slot B 1 hb1).view.set = B.view.set := by
  rw [slot_set, slot_set, ← Finset.map_union]
  have h : (Rect.unit (s := S2x64x128) ![0, 0, 0] S1x64x128.size hb0).set ∪ (Rect.unit (s := S2x64x128) ![1, 0, 0] S1x64x128.size hb1).set = Finset.univ := by
    ext i
    have h0 : (i 0).val < 2 := (i 0).isLt
    rw [Finset.mem_union, mem_slot, mem_slot]
    refine iff_of_true ?_ (Finset.mem_univ _)
    omega
  rw [h]; rfl

/-- A buffer at anything is its two slots at anything. -/
theorem slots_split (B : Memref sig .scVector .vmem S2x64x128 .f32) (f) :
    (B.view.loc (thr d L) ↦[B.view.set]{fullShare} f : sProp 𝕄) ⊢ iprop(anySlot d L (slot B 0 hb0) ∗ anySlot d L (slot B 1 hb1)) := by
  rw [← slots_union B]
  unfold anySlot
  iintro H
  ihave H := (pointsTo_union (slots_disjoint B)).1 $$ H
  icases H with ⟨H0, H1⟩
  isplitl [H0]; · iexists _; iexact H0
  iexists _; iexact H1

theorem slots_join (B : Memref sig .scVector .vmem S2x64x128 .f32) :
    iprop(anySlot d L (slot B 0 hb0) ∗ anySlot d L (slot B 1 hb1)) ⊢ (iprop(∃ f, B.view.loc (thr d L) ↦[B.view.set]{fullShare} f) : sProp 𝕄) := by
  rw [← slots_union B]
  unfold anySlot
  iintro ⟨⟨%f, H0⟩, %g, H1⟩
  iexists ((slot B 1 hb1).view.set.piecewise g f)
  iapply (pointsTo_join (slots_disjoint B))
  isplitl [H0]; · iexact H0
  iexact H1

/-! ## The fetch of a list -/

theorem list_bits : RefSig.bitCredit S512 .i32 = 16384 := by decide +kernel
theorem list_amount {sp : Space} {v : Memref sig .scVector sp S512 .i32} {sm : DmaSem sig} : v.view.amount (.dma sm) = 16384 := list_bits
theorem list_wait {sp : Space} {v : Memref sig .scVector sp S512 .i32} : v.view.dmaCredit = 1 * 16384 := list_credit

/-- The copy of the tile's window of a list, waited for at once. -/
theorem list_step {Q : PUnit → sProp 𝕄} {Aj : Memref sig .scVector .hbm S16384 .i32} {Xj : Memref sig .scVector .vmem S512 .i32} {sm : DmaSem sig}
    {off : Fin 1 → ℕ} {ho} {q : PosShare TreeShare} {h₁} {h₂} {h₃} {h₄} {h₅} {fx : Buf (Elt F) (Aj.view.loc (thr d L))} (gx : Buf (Elt F) (Xj.view.loc (thr d L)))
    (hW : (Xj.view.read (Elt F) gx : S512.Idx → Elt F .i32) = (Aj.slice (Rect.unit (s := S16384) off S512.size ho) (fun _ => rfl)).view.read (Elt F) fx)
    {k : PUnit → Prg F L} :
    iprop((Aj.view.loc (thr d L) ↦[Finset.univ]{q} fx) ∗ (∃ g, Xj.view.loc (thr d L) ↦[Xj.view.set]{fullShare} g) ∗ semVal (thr d L, .dma sm) 0
        ∗ Owed (thr d L) O W ∗ Transfers.MayWaits (thr d L) (default : HIx 1) O)
      ⊢ iprop((iprop((Aj.view.loc (thr d L) ↦[Finset.univ]{q} fx) ∗ (Xj.view.loc (thr d L) ↦[Xj.view.set]{fullShare} gx) ∗ semVal (thr d L, .dma sm) 0
              ∗ Owed (thr d L) O W) -∗ wp frame (wpE (defs₀ (F := F)) 𝒱₀ (thr d L) none) Set.univ (k ⟨⟩) Q)
          -∗ wp frame (wpE (defs₀ (F := F)) 𝒱₀ (thr d L) none) Set.univ
            ((Prog.lift (.enqueueDma (Aj.slice (Rect.unit (s := S16384) off S512.size ho) (fun _ => rfl)) (.here Xj) (.dma sm) h₁ h₂ h₃) >>= fun _ =>
              Prog.lift (.waitDma2 sm (Aj.slice (Rect.unit (s := S16384) off S512.size ho) (fun _ => rfl)) Xj h₄ h₅) >>= k : Prg F L)) Q) := by
  unfold Owed
  iintro ⟨HA, ⟨%g, HX⟩, Hv, ⟨%W₀, %hW₀, HO⟩, #Hmw⟩ Hk
  imod (bundle_alloc EC (thr d L) (sm := .dma sm) (default : HIx 1) 1 16384 1 (E := Set.univ)) $$ Hv with HB
  simp only [wp_bind]
  ihave HA := (pointsTo_split_subset (q := q) (f := fx) (S := Finset.univ) (Finset.subset_univ (Aj.slice (Rect.unit (s := S16384) off S512.size ho) (fun _ => rfl)).view.set)).1 $$ HA
  icases HA with ⟨HA, HR⟩
  iapply (wp_copy EC (thr d L) 𝒱₀ none (src := Aj.slice (Rect.unit (s := S16384) off S512.size ho) (fun _ => rfl)) (dst := Xj) (q := q) (fs := fx) (fd := g)
    (default : HIx 1) (N := 16384) (m := 1) list_amount (Gs := []) Nat.zero_lt_one
    (R := (Aj.view.loc (thr d L) ↦[Finset.univ \ (Aj.slice (Rect.unit (s := S16384) off S512.size ho) (fun _ => rfl)).view.set]{q} fx))
    (iprop((Aj.view.loc (thr d L) ↦[Finset.univ]{q} fx) ∗ (Xj.view.loc (thr d L) ↦[Xj.view.set]{fullShare} gx))) ?_) $$ [HB HA HX HR]
  · have e : (Xj.view.loc (thr d L) ↦[Xj.view.set]{fullShare} (Xj.view.write (Elt F) g
          ((Aj.slice (Rect.unit (s := S16384) off S512.size ho) (fun _ => rfl)).view.read (Elt F) fx) Finset.univ) : sProp 𝕄)
        = (Xj.view.loc (thr d L) ↦[Xj.view.set]{fullShare} gx) := by
      refine pointsTo_congr fun i hi => ?_
      obtain ⟨x, -, rfl⟩ := Finset.mem_map.mp hi
      rw [View.write_emb_of_mem _ _ (Finset.mem_univ x), ← hW]
      rw [View.read_apply, cast_cast, cast_eq]
    rw [e]
    iintro ⟨⟨HX, HA⟩, HR⟩
    isplitl [HA HR]
    · iapply (pointsTo_split_subset (q := q) (f := fx) (S := Finset.univ) (Finset.subset_univ (Aj.slice (Rect.unit (s := S16384) off S512.size ho) (fun _ => rfl)).view.set)).2
      isplitl [HA]; · iexact HA
      iexact HR
    iexact HX
  · isplitl [HB]; · iexact HB
    isplitl [HA]; · iexact HA
    isplitl [HX]; · iexact HX
    iexact HR
  iintro HB
  iapply (wp_waitAll EC (thr d L) 𝒱₀ none (sem := sm) (default : HIx 1) (p := 1) (N := 16384) (m := 1) (u := 0) (Gs := [] ++ [iprop((Aj.view.loc (thr d L) ↦[Finset.univ]{q} fx) ∗ (Xj.view.loc (thr d L) ↦[Xj.view.set]{fullShare} gx))]) list_wait (by decide) rfl rfl) $$ [HB HO]
  · isplitl [HB]; · iexact HB
    isplitl [HO]; · iexact HO
    iapply (Transfers.MayWaits.elim (SemLoc.dma sm)) $$ Hmw
  simp only [List.nil_append, seps]
  iintro ⟨⟨⟨HA, HX⟩, -⟩, Hv, HO⟩
  iapply Hk
  isplitl [HA]; · iexact HA
  isplitl [HX]; · iexact HX
  isplitl [Hv]; · iexact Hv
  iexists _
  isplitr
  swap; · iexact HO
  ipureintro
  intro x hx
  simp only [Finset.mem_insert, Set.mem_insert_iff] at hx
  rcases hx with rfl | hx
  · exact Or.inr rfl
  · exact hW₀ x hx

/-! ## The whole run -/

/-- What a tile is handed, and what it hands back: its share of the four tables and of the four lists, and its 512 rows
of each result. -/
def TileRes (d : Dev nD) (L : grid0.Coords) (A : Ins F) (q : PosShare TreeShare) (f₀ f₁ f₂ f₃ : S16384x128.Idx → Elt F .f32) : sProp 𝕄 :=
  iprop((T0.view.loc (thr d L) ↦[Finset.univ]{q} A.t0) ∗ (T1.view.loc (thr d L) ↦[Finset.univ]{q} A.t1)
    ∗ (T2.view.loc (thr d L) ↦[Finset.univ]{q} A.t2) ∗ (T3.view.loc (thr d L) ↦[Finset.univ]{q} A.t3)
    ∗ (A0.view.loc (thr d L) ↦[Finset.univ]{q} A.x0) ∗ (A1.view.loc (thr d L) ↦[Finset.univ]{q} A.x1)
    ∗ (A2.view.loc (thr d L) ↦[Finset.univ]{q} A.x2) ∗ (A3.view.loc (thr d L) ↦[Finset.univ]{q} A.x3)
    ∗ Rows d L (base L) (base L + 512) f₀ f₁ f₂ f₃)

/-- The tile's window of a list, read. -/
theorem tile_list {off : Fin 1 → ℕ} {inb} (h : off = ![base L]) (x : S16384.Idx → Elt F .i32) (y : S512.Idx) :
    tileIx x (base L) y = x ((Rect.unit (s := S16384) off S512.size inb).emb y) := by
  subst h
  have hB := base_le L
  have hy : (y 0).val < 512 := (y 0).isLt
  unfold tileIx
  congr 1
  funext k
  apply Fin.ext
  match k with
  | ⟨0, _⟩ =>
    show (base L + (y 0).val) % 16384 = base L + 1 * (y 0).val
    rw [Nat.mod_eq_of_lt (by omega)]; omega

theorem off1 : k0_off1 L = ![base L] := k0_off1_eq L

theorem tabs_split (A : Ins F) {q : PosShare TreeShare} :
    Tabs d L A q fullShare ⊢ iprop(Tabs d L A q.left fullShare.left ∗ Tabs d L A q.right fullShare.right) := by
  unfold Tabs
  iintro ⟨⟨HT0, HX0⟩, ⟨HT1, HX1⟩, ⟨HT2, HX2⟩, ⟨HT3, HX3⟩⟩
  ihave HT0 := (pointsTo_share (PosShare.mem_left_op_right q)).1 $$ HT0
  icases HT0 with ⟨HT0, KT0⟩
  ihave HX0 := (pointsTo_share (PosShare.mem_left_op_right fullShare)).1 $$ HX0
  icases HX0 with ⟨HX0, KX0⟩
  ihave HT1 := (pointsTo_share (PosShare.mem_left_op_right q)).1 $$ HT1
  icases HT1 with ⟨HT1, KT1⟩
  ihave HX1 := (pointsTo_share (PosShare.mem_left_op_right fullShare)).1 $$ HX1
  icases HX1 with ⟨HX1, KX1⟩
  ihave HT2 := (pointsTo_share (PosShare.mem_left_op_right q)).1 $$ HT2
  icases HT2 with ⟨HT2, KT2⟩
  ihave HX2 := (pointsTo_share (PosShare.mem_left_op_right fullShare)).1 $$ HX2
  icases HX2 with ⟨HX2, KX2⟩
  ihave HT3 := (pointsTo_share (PosShare.mem_left_op_right q)).1 $$ HT3
  icases HT3 with ⟨HT3, KT3⟩
  ihave HX3 := (pointsTo_share (PosShare.mem_left_op_right fullShare)).1 $$ HX3
  icases HX3 with ⟨HX3, KX3⟩
  isplitl [HT0 HX0 HT1 HX1 HT2 HX2 HT3 HX3]
  · isplitl [HT0 HX0]; · isplitl [HT0]; · iexact HT0
                         iexact HX0
    isplitl [HT1 HX1]; · isplitl [HT1]; · iexact HT1
                         iexact HX1
    isplitl [HT2 HX2]; · isplitl [HT2]; · iexact HT2
                         iexact HX2
    isplitl [HT3]; · iexact HT3
    iexact HX3
  isplitl [KT0 KX0]; · isplitl [KT0]; · iexact KT0
                       iexact KX0
  isplitl [KT1 KX1]; · isplitl [KT1]; · iexact KT1
                       iexact KX1
  isplitl [KT2 KX2]; · isplitl [KT2]; · iexact KT2
                       iexact KX2
  isplitl [KT3]; · iexact KT3
  iexact KX3

theorem tabs_join (A : Ins F) {q : PosShare TreeShare} :
    iprop(Tabs d L A q.left fullShare.left ∗ Tabs d L A q.right fullShare.right) ⊢ Tabs d L A q fullShare := by
  unfold Tabs
  iintro ⟨⟨⟨HT0, HX0⟩, ⟨HT1, HX1⟩, ⟨HT2, HX2⟩, ⟨HT3, HX3⟩⟩, ⟨⟨KT0, KX0⟩, ⟨KT1, KX1⟩, ⟨KT2, KX2⟩, ⟨KT3, KX3⟩⟩⟩
  ihave HT0 := (pointsTo_share (PosShare.mem_left_op_right q)).2 $$ [HT0 KT0]
  · isplitl [HT0]; · iexact HT0
    iexact KT0
  ihave HX0 := (pointsTo_share (PosShare.mem_left_op_right fullShare)).2 $$ [HX0 KX0]
  · isplitl [HX0]; · iexact HX0
    iexact KX0
  ihave HT1 := (pointsTo_share (PosShare.mem_left_op_right q)).2 $$ [HT1 KT1]
  · isplitl [HT1]; · iexact HT1
    iexact KT1
  ihave HX1 := (pointsTo_share (PosShare.mem_left_op_right fullShare)).2 $$ [HX1 KX1]
  · isplitl [HX1]; · iexact HX1
    iexact KX1
  ihave HT2 := (pointsTo_share (PosShare.mem_left_op_right q)).2 $$ [HT2 KT2]
  · isplitl [HT2]; · iexact HT2
    iexact KT2
  ihave HX2 := (pointsTo_share (PosShare.mem_left_op_right fullShare)).2 $$ [HX2 KX2]
  · isplitl [HX2]; · iexact HX2
    iexact KX2
  ihave HT3 := (pointsTo_share (PosShare.mem_left_op_right q)).2 $$ [HT3 KT3]
  · isplitl [HT3]; · iexact HT3
    iexact KT3
  ihave HX3 := (pointsTo_share (PosShare.mem_left_op_right fullShare)).2 $$ [HX3 KX3]
  · isplitl [HX3]; · iexact HX3
    iexact KX3
  isplitl [HT0 HX0]; · isplitl [HT0]; · iexact HT0
                       iexact HX0
  isplitl [HT1 HX1]; · isplitl [HT1]; · iexact HT1
                       iexact HX1
  isplitl [HT2 HX2]; · isplitl [HT2]; · iexact HT2
                       iexact HX2
  isplitl [HT3]; · iexact HT3
  iexact HX3

/-- Both slots of the four row buffers, from the buffers; and back. -/
theorem frees_split : (iprop(anyBuf d L B0 ∗ anyBuf d L B1 ∗ anyBuf d L B2 ∗ anyBuf d L B3) : sProp 𝕄) ⊢ iprop(Free d L 0 hb0 ∗ Free d L 1 hb1) := by
  unfold Free anyBuf
  iintro ⟨⟨%f0, H0⟩, ⟨%f1, H1⟩, ⟨%f2, H2⟩, ⟨%f3, H3⟩⟩
  ihave H0 := (slots_split B0 f0) $$ H0
  icases H0 with ⟨H0, J0⟩
  ihave H1 := (slots_split B1 f1) $$ H1
  icases H1 with ⟨H1, J1⟩
  ihave H2 := (slots_split B2 f2) $$ H2
  icases H2 with ⟨H2, J2⟩
  ihave H3 := (slots_split B3 f3) $$ H3
  icases H3 with ⟨H3, J3⟩
  isplitl [H0 H1 H2 H3]
  · isplitl [H0]; · iexact H0
    isplitl [H1]; · iexact H1
    isplitl [H2]; · iexact H2
    iexact H3
  isplitl [J0]; · iexact J0
  isplitl [J1]; · iexact J1
  isplitl [J2]; · iexact J2
  iexact J3

theorem frees_join : (iprop(Free d L 0 hb0 ∗ Free d L 1 hb1) : sProp 𝕄) ⊢ iprop(anyBuf d L B0 ∗ anyBuf d L B1 ∗ anyBuf d L B2 ∗ anyBuf d L B3) := by
  unfold Free anyBuf
  iintro ⟨⟨H0, H1, H2, H3⟩, ⟨J0, J1, J2, J3⟩⟩
  isplitl [H0 J0]
  · iapply (slots_join B0)
    isplitl [H0]; · iexact H0
    iexact J0
  isplitl [H1 J1]
  · iapply (slots_join B1)
    isplitl [H1]; · iexact H1
    iexact J1
  isplitl [H2 J2]
  · iapply (slots_join B2)
    isplitl [H2]; · iexact H2
    iexact J2
  iapply (slots_join B3)
  isplitl [H3]; · iexact H3
  iexact J3

theorem off8_0 : k0_off8 L 384#32 = ![base L + 384, 0] := (k0_off8_eq L 0).trans (congrArg (fun n => ![n, 0]) (by unfold base; simp))

theorem list_any {X : Memref sig .scVector .vmem S512 .i32} {f : Buf (Elt F) (X.view.loc (thr d L))} :
    (X.view.loc (thr d L) ↦[Finset.univ]{fullShare} f : sProp 𝕄) ⊢ anyBuf d L X := by
  unfold anyBuf
  iintro H
  ihave H := (pointsTo_split_subset (S := Finset.univ) (Finset.subset_univ X.view.set)).1 $$ H
  icases H with ⟨H, -⟩
  iexists f; iexact H

theorem list_read0 {ho} (x : S16384.Idx → Elt F .i32) : (X0.view.read (Elt F) (tileIx x (base L)) : S512.Idx → Elt F .i32)
    = (A0.slice (Rect.unit (s := S16384) (k0_off1 L) S512.size ho) (fun _ => rfl)).view.read (Elt F) x := funext fun y => tile_list off1 x y

theorem list_read1 {ho} (x : S16384.Idx → Elt F .i32) : (X1.view.read (Elt F) (tileIx x (base L)) : S512.Idx → Elt F .i32)
    = (A1.slice (Rect.unit (s := S16384) (k0_off1 L) S512.size ho) (fun _ => rfl)).view.read (Elt F) x := funext fun y => tile_list off1 x y

theorem list_read2 {ho} (x : S16384.Idx → Elt F .i32) : (X2.view.read (Elt F) (tileIx x (base L)) : S512.Idx → Elt F .i32)
    = (A2.slice (Rect.unit (s := S16384) (k0_off1 L) S512.size ho) (fun _ => rfl)).view.read (Elt F) x := funext fun y => tile_list off1 x y

theorem list_read3 {ho} (x : S16384.Idx → Elt F .i32) : (X3.view.read (Elt F) (tileIx x (base L)) : S512.Idx → Elt F .i32)
    = (A3.slice (Rect.unit (s := S16384) (k0_off1 L) S512.size ho) (fun _ => rfl)).view.read (Elt F) x := funext fun y => tile_list off1 x y

/-- Of no rows, any contents hold. -/
theorem rows_none {n : ℕ} {f₀ f₁ f₂ f₃ : S16384x128.Idx → Elt F .f32} (g₀ g₁ g₂ g₃ : S16384x128.Idx → Elt F .f32) :
    (Rows d L n n f₀ f₁ f₂ f₃ : sProp 𝕄) ⊢ Rows d L n n g₀ g₁ g₂ g₃ := by
  have h : ∀ i ∈ rowsSet n n, False := by rw [rowsSet_empty]; intro i hi; exact absurd hi (Finset.notMem_empty i)
  unfold Rows
  exact BI.sep_mono (Entails.of_eq (pointsTo_congr fun i hi => (h i hi).elim)) (BI.sep_mono (Entails.of_eq (pointsTo_congr fun i hi => (h i hi).elim))
    (BI.sep_mono (Entails.of_eq (pointsTo_congr fun i hi => (h i hi).elim)) (Entails.of_eq (pointsTo_congr fun i hi => (h i hi).elim))))

/-- A trip, the evidence for its waits kept. -/
theorem trip_keep (A : Ins F) (hA : A.Ok) {q₀ q₁ r₀ r₁ : PosShare TreeShare} {f₀ f₁ f₂ f₃ : S16384x128.Idx → Elt F .f32}
    (v2 : BitVec 32) (t : Fin k0_t1_loop.trips) :
    iprop(Inv d L A q₀ q₁ r₀ r₁ f₀ f₁ f₂ f₃ O W t.val ∗ Transfers.MayWaits (thr d L) (default : HIx 1) O)
      ⊢ wp frame (wpE (defs₀ (F := F)) 𝒱₀ (thr d L) none) Set.univ (tripAt F L v2 t ()) fun _ =>
          iprop(Inv d L A q₀ q₁ r₀ r₁ f₀ f₁ f₂ f₃ O W (t.val + 1) ∗ Transfers.MayWaits (thr d L) (default : HIx 1) O) := by
  iintro ⟨HI, #Hmw⟩
  iapply (wp_frame_r)
  isplitl [HI]
  · iapply (trip A hA v2 t)
    isplitl [HI]; · iexact HI
    iexact Hmw
  iexact Hmw

set_option maxHeartbeats 1000000 in
theorem tile_body (hF : (K (F := F)).Facts) (A : Ins F) (hA : A.Ok) (q : PosShare TreeShare) (f₀ f₁ f₂ f₃ : S16384x128.Idx → Elt F .f32)
    (hO : ∀ g, O g none = 0) :
    iprop(levAts (K (F := F)).L (K (F := F)).lev ∗ emp ∗ TileRes d L A q f₀ f₁ f₂ f₃
        ∗ scopedBufs (thr d L) ∗ scopedSems0 (thr d L) ∗ owes (thr d L) O W)
      ⊢ wp frame (wpE (defs₀ (F := F)) 𝒱₀ (thr d L) none) Set.univ
          (cc0_k (F := F) L T0 (Memref.isWhole_whole _) T1 (Memref.isWhole_whole _) T2 (Memref.isWhole_whole _) T3 (Memref.isWhole_whole _) A2 (Memref.isWhole_whole _) A3 (Memref.isWhole_whole _) A0 (Memref.isWhole_whole _) A1 (Memref.isWhole_whole _) O0 (Memref.isWhole_whole _) O1 (Memref.isWhole_whole _) O2 (Memref.isWhole_whole _) O3 (Memref.isWhole_whole _) X2 (Memref.isWhole_whole _) X3 (Memref.isWhole_whole _) X0 (Memref.isWhole_whole _) X1 (Memref.isWhole_whole _) B0 (Memref.isWhole_whole _) B1 (Memref.isWhole_whole _) B2 (Memref.isWhole_whole _) B3 (Memref.isWhole_whole _)
            cc0_scratch8 cc0_scratch9 cc0_scoped0 cc0_scoped1 cc0_scoped2 cc0_scoped3)
          fun _ => iprop(TileRes d L A q A.w0 A.w1 A.w2 A.w3 ∗ scopedBufs (thr d L) ∗ scopedSems0 (thr d L)
            ∗ ∃ W', ⌜∀ p ∈ W', p ∈ W ∨ p.2 = none⌝ ∗ owes (thr d L) O W') := by
  have hB := base_le L
  simp only [cc0_k_eq_skeleton]; unfold cc0_k_skel
  simp only [k0_part9_eq_skeleton, k0_part10_eq_skeleton, k0_part11_eq_skeleton, k0_part12_eq_skeleton]
  unfold k0_part9_skel k0_part10_skel k0_part11_skel k0_part12_skel
  simp only [bind_assoc, pure_bind, wait_eq]
  rw [(K (F := F)).scopedBufs_V hF d (cV L) (jV L), SparseCore.Cfg.scopedSems0_V (Val := Elt F) d (cV L) (jV L), ownSems0_V, ownBufs_V,
    bufs_chain, sems_chain]
  iintro ⟨#Hlv, -, HR, ⟨⟨HX2, HX3, HX0, HX1, HBs⟩, HBr⟩, ⟨⟨Hg0, Hg1, Ho0, Ho1, Hc0, Hc1, Hc2, Hc3⟩, HSr⟩, HO⟩
  unfold TileRes
  icases HR with ⟨HT0, HT1, HT2, HT3, HA0, HA1, HA2, HA3, HU⟩
  ihave Hmw := (show levAts (K (F := F)).L (K (F := F)).lev ⊢ Transfers.MayWaits (thr d L) (default : HIx 1) O from
    (K (F := F)).mayWaits_none (thr := thr d L) hO) $$ Hlv
  icases Hmw with #Hmw
  ihave HO := (show (owes (thr d L) O W : sProp 𝕄) ⊢ Owed (thr d L) O W from by
    unfold Owed; iintro H; iexists W; isplitr; · ipureintro; exact fun p hp => Or.inl hp
    iexact H) $$ HO
  iapply (list_step (L := L) (Aj := A2) (Xj := X2) (sm := cc0_scoped0.sem) (off := k0_off1 L) (fx := A.x2) (tileIx A.x2 (base L)) (list_read2 A.x2)) $$ [HA2 HX2 Hc0 HO]
  · isplitl [HA2]; · iexact HA2
    isplitl [HX2]; · unfold anyBuf; iexact HX2
    isplitl [Hc0]; · iexact Hc0
    isplitl [HO]; · iexact HO
    iexact Hmw
  iintro ⟨HA2, HX2, Hc0, HO⟩
  iapply (list_step (L := L) (Aj := A3) (Xj := X3) (sm := cc0_scoped1.sem) (off := k0_off1 L) (fx := A.x3) (tileIx A.x3 (base L)) (list_read3 A.x3)) $$ [HA3 HX3 Hc1 HO]
  · isplitl [HA3]; · iexact HA3
    isplitl [HX3]; · unfold anyBuf; iexact HX3
    isplitl [Hc1]; · iexact Hc1
    isplitl [HO]; · iexact HO
    iexact Hmw
  iintro ⟨HA3, HX3, Hc1, HO⟩
  iapply (list_step (L := L) (Aj := A0) (Xj := X0) (sm := cc0_scoped2.sem) (off := k0_off1 L) (fx := A.x0) (tileIx A.x0 (base L)) (list_read0 A.x0)) $$ [HA0 HX0 Hc2 HO]
  · isplitl [HA0]; · iexact HA0
    isplitl [HX0]; · unfold anyBuf; iexact HX0
    isplitl [Hc2]; · iexact Hc2
    isplitl [HO]; · iexact HO
    iexact Hmw
  iintro ⟨HA0, HX0, Hc2, HO⟩
  iapply (list_step (L := L) (Aj := A1) (Xj := X1) (sm := cc0_scoped3.sem) (off := k0_off1 L) (fx := A.x1) (tileIx A.x1 (base L)) (list_read1 A.x1)) $$ [HA1 HX1 Hc3 HO]
  · isplitl [HA1]; · iexact HA1
    isplitl [HX1]; · unfold anyBuf; iexact HX1
    isplitl [Hc3]; · iexact Hc3
    isplitl [HO]; · iexact HO
    iexact Hmw
  iintro ⟨HA1, HX1, Hc3, HO⟩
  ihave HT := (show iprop(((T0.view.loc (thr d L) ↦[Finset.univ]{q} A.t0) ∗ X0.view.loc (thr d L) ↦[X0.view.set]{fullShare} tileIx A.x0 (base L)) ∗ ((T1.view.loc (thr d L) ↦[Finset.univ]{q} A.t1) ∗ X1.view.loc (thr d L) ↦[X1.view.set]{fullShare} tileIx A.x1 (base L)) ∗ ((T2.view.loc (thr d L) ↦[Finset.univ]{q} A.t2) ∗ X2.view.loc (thr d L) ↦[X2.view.set]{fullShare} tileIx A.x2 (base L)) ∗ ((T3.view.loc (thr d L) ↦[Finset.univ]{q} A.t3) ∗ X3.view.loc (thr d L) ↦[X3.view.set]{fullShare} tileIx A.x3 (base L))) ⊢ Tabs d L A q fullShare from
    Entails.of_eq (by unfold Tabs; simp only [Memref.view_whole, View.set_whole])) $$ [HT0 HX0 HT1 HX1 HT2 HX2 HT3 HX3]
  · isplitl [HT0 HX0]; · isplitl [HT0]; · iexact HT0
                         iexact HX0
    isplitl [HT1 HX1]; · isplitl [HT1]; · iexact HT1
                         iexact HX1
    isplitl [HT2 HX2]; · isplitl [HT2]; · iexact HT2
                         iexact HX2
    isplitl [HT3]; · iexact HT3
    iexact HX3
  ihave HT := (tabs_split A) $$ HT
  icases HT with ⟨HT0, HT1⟩
  ihave HBs := frees_split $$ HBs
  icases HBs with ⟨HE0, HE1⟩
  iapply (gathers4 A hA (hs := hs0) 0 rfl (by omega)) $$ [HT0 HE0 Hg0]
  · isplitl [HT0]; · iexact HT0
    isplitl [HE0]; · iexact HE0
    iexact Hg0
  iintro HF0
  iapply (gathers4 A hA (hs := hs1) 64 rfl (by omega)) $$ [HT1 HE1 Hg1]
  · isplitl [HT1]; · iexact HT1
    isplitl [HE1]; · iexact HE1
    iexact Hg1
  iintro HF1
  ihave HU := (rows_split (mid := base L) (Nat.le_refl _) (Nat.le_add_right _ _) f₀ f₁ f₂ f₃) $$ HU
  icases HU with ⟨HD, HU⟩
  iapply (Scf.wp_for_bind frame (wpE (defs₀ (F := F)) 𝒱₀ (thr d L) none) Set.univ _ _ _ k0_t1_ok _ _
    (fun t _ => iprop(Inv d L A q.left q.right fullShare.left fullShare.right f₀ f₁ f₂ f₃ O W t ∗ Transfers.MayWaits (thr d L) (default : HIx 1) O))
    (fun t _ => trip_keep A hA _ t)) $$ [HF0 HF1 Ho0 Ho1 HD HU HO]
  · isplitl [HF0 HF1 Ho0 Ho1 HD HU HO]
    · unfold Inv Fetching
      simp only [if_pos (show 0 < 4 by omega)]
      isplitl [HF0 Ho0]; · isplitl [HF0]; · iexact HF0
                           iexact Ho0
      isplitl [HF1 Ho1]; · isplitl [HF1]; · iexact HF1
                           iexact Ho1
      isplitl [HD]; · iapply (rows_none A.w0 A.w1 A.w2 A.w3); iexact HD
      isplitl [HU]; · iexact HU
      iexact HO
    · iexact Hmw
  iintro %_ ⟨HI, -⟩
  ihave HI := (Entails.of_eq (show Inv d L A q.left q.right fullShare.left fullShare.right f₀ f₁ f₂ f₃ O W k0_t1_loop.trips = _ by
    unfold Inv; rw [trips_eq, if_neg (by omega)])) $$ HI
  unfold Sending
  icases HI with ⟨⟨HT0, Hg0, HS0⟩, ⟨HT1, Hg1, HS1⟩, HD, HO⟩
  iapply (waits4 (s := osem 0 hs0) (p := 1) (N := 262144) (Gs := Sent d L A 0 hb0 (base L + 384)) rfl (by decide) out_credit out_credit out_credit out_credit
    ) $$ [HS0 HO]
  · isplitl [HS0]; · iexact HS0
    isplitl [HO]; · iexact HO
    iexact Hmw
  iintro ⟨HS0, Ho0, HO⟩
  ihave HS0 := (sent_back A) $$ HS0
  icases HS0 with ⟨HP, HE0⟩
  ihave HD := (rows_join (lo := base L) (mid := base L + 384) (mid' := base L + 384) (hi := base L + 384 + 64) (hi' := base L + 448) (by omega) (by omega) rfl (by omega) A.w0 A.w1 A.w2 A.w3) $$ [HD HP]
  · isplitl [HD]; · iexact HD
    iexact HP
  iapply (waits4 (s := osem 1 hs1) (p := 1) (N := 262144) (Gs := Sent d L A 1 hb1 (base L + 448)) rfl (by decide) out_credit out_credit out_credit out_credit
    (k := fun _ => pure ⟨⟩)) $$ [HS1 HO]
  · isplitl [HS1]; · iexact HS1
    isplitl [HO]; · iexact HO
    iexact Hmw
  iintro ⟨HS1, Ho1, HO⟩
  ihave HS1 := (sent_back A) $$ HS1
  icases HS1 with ⟨HP, HE1⟩
  ihave HD := (rows_join (lo := base L) (mid := base L + 448) (mid' := base L + 448) (hi := base L + 448 + 64) (hi' := base L + 512) (by omega) (by omega) rfl (by omega) A.w0 A.w1 A.w2 A.w3) $$ [HD HP]
  · isplitl [HD]; · iexact HD
    iexact HP
  simp only [wp_pure]
  imodintro
  ihave HT := (tabs_join A) $$ [HT0 HT1]
  · isplitl [HT0]; · iexact HT0
    iexact HT1
  unfold Tabs
  icases HT with ⟨⟨HT0, HX0⟩, ⟨HT1, HX1⟩, ⟨HT2, HX2⟩, ⟨HT3, HX3⟩⟩
  ihave HBs := frees_join $$ [HE0 HE1]
  · isplitl [HE0]; · iexact HE0
    iexact HE1
  isplitl [HT0 HT1 HT2 HT3 HA0 HA1 HA2 HA3 HD]
  · isplitl [HT0]; · iexact HT0
    isplitl [HT1]; · iexact HT1
    isplitl [HT2]; · iexact HT2
    isplitl [HT3]; · iexact HT3
    isplitl [HA0]; · iexact HA0
    isplitl [HA1]; · iexact HA1
    isplitl [HA2]; · iexact HA2
    isplitl [HA3]; · iexact HA3
    iexact HD
  isplitl [HX0 HX1 HX2 HX3 HBs HBr]
  · isplitl [HX0 HX1 HX2 HX3 HBs]
    · isplitl [HX2]; · iapply list_any; iexact HX2
      isplitl [HX3]; · iapply list_any; iexact HX3
      isplitl [HX0]; · iapply list_any; iexact HX0
      isplitl [HX1]; · iapply list_any; iexact HX1
      iexact HBs
    iexact HBr
  isplitl [Hg0 Hg1 Ho0 Ho1 Hc0 Hc1 Hc2 Hc3 HSr]
  · isplitl [Hg0 Hg1 Ho0 Ho1 Hc0 Hc1 Hc2 Hc3]
    · isplitl [Hg0]; · iexact Hg0
      isplitl [Hg1]; · iexact Hg1
      isplitl [Ho0]; · iexact Ho0
      isplitl [Ho1]; · iexact Ho1
      isplitl [Hc0]; · iexact Hc0
      isplitl [Hc1]; · iexact Hc1
      isplitl [Hc2]; · iexact Hc2
      iexact Hc3
    iexact HSr
  unfold Owed
  iexact HO

end Cert.Proof
-- ==== Proof.Launch.lean ====
/-
  THE SPARSECORE CALL'S LAUNCH: what the call takes and brings back, how it is dealt to the thirty-two tiles, and each
  tile's obligation met by its run (`tile_body`).

  Every input array is dealt in thirty-two equal shares; each result array in thirty-two blocks of 512 rows.
-/
module

public import proofs.«01_k».proof.Proof.Body

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The tile of SparseCore `c`, subcore `i`. -/
def tileAt (c : Fin 2) (i : Fin 16) : grid0.Coords :=
  fun | 0 => c | 1 => i | ⟨_ + 2, h⟩ => absurd h (Nat.not_lt.2 (Nat.le_add_left _ _))

/-- Its share of every input array. -/
def tileShare (c : Fin 2) (i : Fin 16) : PosShare TreeShare :=
  pieceOf (pieceOf fullShare 2 Nat.zero_lt_two c) 16 (Nat.succ_pos 15) i

/-- What the call is given: the eight input arrays' contents, and the four result arrays' before it. -/
structure CallIn (F : FTy → Type) where
  ins : Ins F
  f₀ : S16384x128.Idx → Elt F .f32
  f₁ : S16384x128.Idx → Elt F .f32
  f₂ : S16384x128.Idx → Elt F .f32
  f₃ : S16384x128.Idx → Elt F .f32

/-- A tile's part of the arrays before its run, -/
def tileGo (A : CallIn F) (d : Dev nD) (c : Fin 2) (i : Fin 16) : sProp 𝕄 :=
  TileRes d (tileAt c i) A.ins (tileShare c i) A.f₀ A.f₁ A.f₂ A.f₃
/-- and after it. -/
def tileTd (A : CallIn F) (d : Dev nD) (c : Fin 2) (i : Fin 16) : sProp 𝕄 :=
  TileRes d (tileAt c i) A.ins (tileShare c i) A.ins.w0 A.ins.w1 A.ins.w2 A.ins.w3

/-- The call's payloads: a SparseCore's are its sixteen tiles'. -/
def P (A : Dev nD → CallIn F) : (K (F := F)).Pay (nD := nD) (Val := Elt F) (Name := ℕ) (U := UU) where
  st := fun q d c => match q with | 0 => bigSep Finset.univ fun i : Fin 16 => tileGo (A d) d c i
  dn := fun q d c => match q with | 0 => bigSep Finset.univ fun i : Fin 16 => tileTd (A d) d c i
  go := fun q d c i => match q with | 0 => tileGo (A d) d c i
  td := fun q d c i => match q with | 0 => tileTd (A d) d c i
  x := fun _ _ => iprop(emp)

instance tileRes_storable (d : Dev nD) (L : grid0.Coords) (A : Ins F) (q : PosShare TreeShare) (f₀ f₁ f₂ f₃ : S16384x128.Idx → Elt F .f32) :
    BI.Storable (upEmb : UEmb _ 𝕄) (TileRes d L A q f₀ f₁ f₂ f₃) := by
  unfold TileRes Rows; infer_instance

instance P_storable (A : Dev nD → CallIn F) : (P (F := F) A).IsStorable where
  st q d c := match q with | 0 => (by unfold P tileGo; infer_instance)
  dn q d c := match q with | 0 => (by unfold P tileTd; infer_instance)
  go q d c i := match q with | 0 => (by unfold P tileGo; infer_instance)
  td q d c i := match q with | 0 => (by unfold P tileTd; infer_instance)

theorem vecSplit (A : Dev nD → CallIn F) : (K (F := F)).VecSplit' (P A) 0 := by
  intro d c
  show (bigSep Finset.univ fun i : Fin 16 => tileGo (A d) d c i) ⊢ |={Set.univ}=> iprop((bigSep Finset.univ fun i : Fin 16 => tileGo (A d) d c i)
    ∗ ((bigSep Finset.univ fun i : Fin 16 => tileTd (A d) d c i) -∗ bigSep Finset.univ fun i : Fin 16 => tileTd (A d) d c i))
  iintro H; imodintro
  isplitl [H]; · iexact H
  iintro H; iexact H

/-! ## The tiles' obligation -/

section Obl

variable [FloatOps F]

theorem defs_tile (c : Fin τ.nSC) (s : Fin τ.nSub) :
    defs₀ (F := F) (.scVector c s) 0 ()
      = SparseCore.onTile hcore0 hsub0 (fun c s => cc0_k (tileAt c s) T0 (Memref.isWhole_whole _) T1 (Memref.isWhole_whole _) T2 (Memref.isWhole_whole _) T3 (Memref.isWhole_whole _)
          A2 (Memref.isWhole_whole _) A3 (Memref.isWhole_whole _) A0 (Memref.isWhole_whole _) A1 (Memref.isWhole_whole _)
          O0 (Memref.isWhole_whole _) O1 (Memref.isWhole_whole _) O2 (Memref.isWhole_whole _) O3 (Memref.isWhole_whole _)
          X2 (Memref.isWhole_whole _) X3 (Memref.isWhole_whole _) X0 (Memref.isWhole_whole _) X1 (Memref.isWhole_whole _)
          B0 (Memref.isWhole_whole _) B1 (Memref.isWhole_whole _) B2 (Memref.isWhole_whole _) B3 (Memref.isWhole_whole _)
          cc0_scratch8 cc0_scratch9 cc0_scoped0 cc0_scoped1 cc0_scoped2 cc0_scoped3) ⟨⟩ c s := rfl

/-- A wait of the tile's own is among those the call's end allows. -/
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr
  · ipureintro; intro p hp; exact (h p hp).imp_right Or.inl
  iexact HO

set_option maxRecDepth 16384 in
theorem tileObl (A : Dev nD → CallIn F) (hA : ∀ d, (A d).ins.Ok) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_tile]; simp only [SparseCore.onTile, hci, and_self, ↓reduceDIte]
  exact (tile_body (L := tileAt ⟨_, hci.1⟩ ⟨_, hci.2⟩) facts (A d).ins (hA d) (tileShare ⟨_, hci.1⟩ ⟨_, hci.2⟩) (A d).f₀ (A d).f₁ (A d).f₂ (A d).f₃ hO).trans
    (wp_mono frame _ _ fun _ => post_weaken)

end Obl

/-! ## The arrays dealt to the tiles, and back -/

/-- A tile's rows of a result. -/
abbrev tileRows (p : Fin 2 × Fin 16) : Finset S16384x128.Idx := rowsSet (base (tileAt p.1 p.2)) (base (tileAt p.1 p.2) + 512)

/-- The tiles' rows are all the rows, each in one tile. -/
theorem rows_cover : (Finset.univ : Finset (Fin 2 × Fin 16)).biUnion tileRows = Finset.univ := by
  ext i
  simp only [Finset.mem_biUnion, Finset.mem_univ, true_and, mem_rowsSet, iff_true]
  have hi : (i 0).val < 16384 := (i 0).isLt
  refine ⟨(⟨(i 0).val / 512 % 2, Nat.mod_lt _ (by omega)⟩, ⟨(i 0).val / 1024, by omega⟩), ?_⟩
  simp only [base, tileAt]
  omega

theorem rows_disjoint : ∀ p ∈ (Finset.univ : Finset (Fin 2 × Fin 16)), ∀ p' ∈ (Finset.univ : Finset (Fin 2 × Fin 16)), p ≠ p' →
    Disjoint (tileRows p) (tileRows p') := by
  intro p _ p' _ hne
  rw [Finset.disjoint_left]
  intro i hi hi'
  rw [mem_rowsSet] at hi hi'
  simp only [base, tileAt] at hi hi'
  have h1 := p.1.isLt; have h2 := p.2.isLt; have h3 := p'.1.isLt; have h4 := p'.2.isLt
  exact hne (Prod.ext (Fin.ext (by omega)) (Fin.ext (by omega)))

theorem deal_in {ℓ : Loc nD τ sig} (f : Buf (Elt F) ℓ) :
    (ℓ ↦[Finset.univ]{fullShare} f : sProp 𝕄) = bigSep Finset.univ fun c : Fin 2 => bigSep Finset.univ fun i : Fin 16 => ℓ ↦[Finset.univ]{tileShare c i} f := by
  rw [pointsTo_piecesOf Finset.univ f Nat.zero_lt_two fullShare]
  exact bigSep_congr fun c _ => pointsTo_piecesOf Finset.univ f (Nat.succ_pos 15) _

theorem deal_rows {ℓ : Loc nD τ sig} (I : Fin 2 × Fin 16 → Finset (Idx ℓ))
    (hd : ∀ p ∈ (Finset.univ : Finset (Fin 2 × Fin 16)), ∀ p' ∈ (Finset.univ : Finset (Fin 2 × Fin 16)), p ≠ p' → Disjoint (I p) (I p'))
    (hc : (Finset.univ : Finset (Fin 2 × Fin 16)).biUnion I = Finset.univ) (f : Buf (Elt F) ℓ) :
    (ℓ ↦[Finset.univ]{fullShare} f : sProp 𝕄) = bigSep Finset.univ fun c : Fin 2 => bigSep Finset.univ fun i : Fin 16 => ℓ ↦[I (c, i)]{fullShare} f := by
  rw [← hc, pointsTo_biUnion Finset.univ I hd, bigSep_univ_prod]

theorem sep_eq {a a' b b' : sProp 𝕄} (h : a = a') (k : b = b') : iprop(a ∗ b) = iprop(a' ∗ b') := by rw [h, k]

/-- The place of the array `b` of device `d`. -/
abbrev place (d : Dev nD) (b : Ref sig .tc) : Loc nD τ sig := (d.tc : Thread nD τ).loc b

/-- The twelve arrays of the call, whole: the inputs at their contents, the results at `f₀` … `f₃`. -/
def CallRes (d : Dev nD) (A : Ins F) (f₀ f₁ f₂ f₃ : S16384x128.Idx → Elt F .f32) : sProp 𝕄 :=
  iprop((place d main_v10 ↦[Finset.univ]{fullShare} A.t0) ∗ (place d main_v11 ↦[Finset.univ]{fullShare} A.t1)
    ∗ (place d main_arg4 ↦[Finset.univ]{fullShare} A.t2) ∗ (place d main_arg5 ↦[Finset.univ]{fullShare} A.t3)
    ∗ (place d main_v1 ↦[Finset.univ]{fullShare} A.x0) ∗ (place d main_v3 ↦[Finset.univ]{fullShare} A.x1)
    ∗ (place d main_arg0 ↦[Finset.univ]{fullShare} A.x2) ∗ (place d main_arg1 ↦[Finset.univ]{fullShare} A.x3)
    ∗ (place d main_v12_0 ↦[Finset.univ]{fullShare} f₀) ∗ (place d main_v12_1 ↦[Finset.univ]{fullShare} f₁)
    ∗ (place d main_v12_2 ↦[Finset.univ]{fullShare} f₂) ∗ (place d main_v12_3 ↦[Finset.univ]{fullShare} f₃))

set_option maxRecDepth 16384 in
/-- They are the tiles' parts. -/
theorem call_deal (d : Dev nD) (A : Ins F) (f₀ f₁ f₂ f₃ : S16384x128.Idx → Elt F .f32) :
    (CallRes d A f₀ f₁ f₂ f₃ : sProp 𝕄) = bigSep Finset.univ fun c : Fin 2 => bigSep Finset.univ fun i : Fin 16 =>
      TileRes d (tileAt c i) A (tileShare c i) f₀ f₁ f₂ f₃ := by
  unfold CallRes TileRes Rows
  simp only [bigSep_sep']
  exact sep_eq (deal_in (ℓ := place d main_v10) A.t0) (sep_eq (deal_in (ℓ := place d main_v11) A.t1)
    (sep_eq (deal_in (ℓ := place d main_arg4) A.t2) (sep_eq (deal_in (ℓ := place d main_arg5) A.t3)
    (sep_eq (deal_in (ℓ := place d main_v1) A.x0) (sep_eq (deal_in (ℓ := place d main_v3) A.x1)
    (sep_eq (deal_in (ℓ := place d main_arg0) A.x2) (sep_eq (deal_in (ℓ := place d main_arg1) A.x3)
    (sep_eq (deal_rows (ℓ := place d main_v12_0) tileRows rows_disjoint rows_cover f₀)
    (sep_eq (deal_rows (ℓ := place d main_v12_1) tileRows rows_disjoint rows_cover f₁)
    (sep_eq (deal_rows (ℓ := place d main_v12_2) tileRows rows_disjoint rows_cover f₂)
      (deal_rows (ℓ := place d main_v12_3) tileRows rows_disjoint rows_cover f₃)))))))))))

/-! ## The launch's ghost state -/

/-- The staging cells' rounds: the middle component. -/
abbrev EP : Emb (URounds (GSem nD τ sig) Unit) 𝕄 := (Emb.inl : Emb (URounds (GSem nD τ sig) Unit) (URounds (GSem nD τ sig) Unit × Counters)).trans embR

abbrev adm : (p : Fin 1) → (pcfgs (F := F) p).Adm := fun p => (cfgs p).toPCfg_adm
abbrev pcs : Fin 1 → Pipeline.Cfg sig Λ₀ := Pipeline.pin (pcfgs (F := F)) adm

theorem phinj : Function.Injective (Pipeline.cellOf (nD := nD) (τ := τ) (pcs (F := F))) := cellOf_inj

/-- What each core's pipeline starts from. -/
def G (d : Dev nD) : sProp 𝕄 := iprop(Pipeline.cellsGhost (pcs (F := F)) EP 0 d ∗ Pipeline.toksInit (pcs (F := F)) EP 0 d)

def u₀ : UU :=
  (initOf (K (F := F)).hsCells (K (F := F)).hsToks, (initOf (Pipeline.cells (pcs (F := F)) phinj) (Pipeline.launchToks (pcs (F := F)) phinj), 1))

theorem hu₀ (A : Dev nD → CallIn F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P A).x q thr) := by
  unfold u₀
  iintro Hu
  ihave H := (ownU_pair (initOf (K (F := F)).hsCells (K (F := F)).hsToks)
    ((initOf (Pipeline.cells (pcs (F := F)) phinj) (Pipeline.launchToks (pcs (F := F)) phinj), (1 : Counters)))) $$ Hu
  icases H with ⟨HH, HR⟩
  ihave H := (own_pair_emb (embR (nD := nD) (τ := τ) (sig := sig) (Ix := HIx 1) (Val := Elt F) (Name := ℕ) (Lvl := ℕ) (A := URounds (GSem nD τ sig) ℕ) (B := URounds (GSem nD τ sig) Unit × Counters))
    (initOf (Pipeline.cells (pcs (F := F)) phinj) (Pipeline.launchToks (pcs (F := F)) phinj)) (1 : Counters)) $$ HR
  icases H with ⟨HP, -⟩
  imod (Pipeline.fund_ghost (pcs (F := F)) EP phinj) $$ HP with ⟨Hg, Ht⟩
  imodintro
  isplitl [HH]; · iexact HH
  isplitl [Hg Ht]
  · unfold G
    rw [bigSep_sep']
    rw [show (fun c : Dev nD => bigSep Finset.univ fun p => Pipeline.cellsGhost (pcs (F := F)) EP p c) = fun c => (Pipeline.cellsGhost (pcs (F := F)) EP 0 c : sProp 𝕄) from
        funext fun c => bigSep_univ_of_subsingleton (0 : Fin 1),
      show (fun c : Dev nD => bigSep Finset.univ fun p => Pipeline.toksInit (pcs (F := F)) EP p c) = fun c => (Pipeline.toksInit (pcs (F := F)) EP 0 c : sProp 𝕄) from
        funext fun c => bigSep_univ_of_subsingleton (0 : Fin 1)]
    isplitl [Hg]; · iexact Hg
    iexact Ht
  rw [show (bigSep Finset.univ fun thr : Thread nD τ => bigSep Finset.univ fun q : Fin 1 => (P (F := F) A).x q thr) = iprop(emp) from
    (bigSep_congr fun _ _ => bigSep_univ_of_subsingleton (0 : Fin 1)).trans (bigSep_emp_const _)]
  iempintro

end Cert.Proof

end
-- ==== Proof.Tc.lean ====
/-
  THE TENSORCORE CALL: its body at a grid point, as one function of the blocks it reads, and the call as a region of @main.

  Each point reads 2048 rows of the gathered arrays and of the two parity columns, and the whole weights; it writes 2048
  rows of the result (`head`).
-/
module

public import proofs.«01_k».proof.Proof.Launch
public import Idealize.ShloMosaic.Lib.Pipeline.FrameBody
public import Idealize.ShloMosaic.Lib.Pipeline.Value
public import Idealize.ShloMosaic.Lib.Pipeline.RegionArrays
public import Idealize.ShloMosaic.Lib.Pipeline.ValueKit

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The body at a point -/

/-- What a point writes, of the blocks it reads. -/
def head (x0 : Vec F S2048x128 .f32) (x1 : Vec F S2048x128 .f32) (x2 : Vec F S2048x128 .f32) (x3 : Vec F S2048x128 .f32) (x4 : Vec F S2048x1 .i32) (x5 : Vec F S2048x1 .i32) (x6 : Vec F S128x128 .f32) (x7 : Vec F S128x128 .f32) (x8 : Vec F S1x128 .f32) (x9 : Vec F S128x64 .f32) (x10 : Vec F S1x64 .f32) (x11 : Vec F S1x64 .f32) (x12 : Vec F S1x64 .f32) (x13 : Vec F S1x1 .f32) : Vec F S2048x1 .f32 :=
  k1_pay1 (k1_pay2 x2 x6 x3 x7 x8 x9 x10) (k1_pay3 x0) (k1_pay4 x1) (k1_pay5 x4) x5 x11 x12 x13

theorem zero_pair : (![0, 0] : Fin 2 → ℕ) = fun _ => 0 := funext fun a => by fin_cases a <;> rfl
/-- The body on whole buffers, the first fourteen reading `x0` … `x13`, runs to its return with those as they were and the
last at `head` of them. -/
theorem head_run (d : Dev nD) (i : grid1.Coords) (M0 : Memref sig .tc .vmem S2048x128 .f32) (h0 : M0.IsWhole) (M1 : Memref sig .tc .vmem S2048x128 .f32) (h1 : M1.IsWhole) (M2 : Memref sig .tc .vmem S2048x128 .f32) (h2 : M2.IsWhole) (M3 : Memref sig .tc .vmem S2048x128 .f32) (h3 : M3.IsWhole) (M4 : Memref sig .tc .vmem S2048x1 .i32) (h4 : M4.IsWhole) (M5 : Memref sig .tc .vmem S2048x1 .i32) (h5 : M5.IsWhole) (M6 : Memref sig .tc .vmem S128x128 .f32) (h6 : M6.IsWhole) (M7 : Memref sig .tc .vmem S128x128 .f32) (h7 : M7.IsWhole) (M8 : Memref sig .tc .vmem S1x128 .f32) (h8 : M8.IsWhole) (M9 : Memref sig .tc .vmem S128x64 .f32) (h9 : M9.IsWhole) (M10 : Memref sig .tc .vmem S1x64 .f32) (h10 : M10.IsWhole) (M11 : Memref sig .tc .vmem S1x64 .f32) (h11 : M11.IsWhole) (M12 : Memref sig .tc .vmem S1x64 .f32) (h12 : M12.IsWhole) (M13 : Memref sig .tc .vmem S1x1 .f32) (h13 : M13.IsWhole) (M14 : Memref sig .tc .vmem S2048x1 .f32) (h14 : M14.IsWhole)
    (x0 : Vec F S2048x128 .f32) (x1 : Vec F S2048x128 .f32) (x2 : Vec F S2048x128 .f32) (x3 : Vec F S2048x128 .f32) (x4 : Vec F S2048x1 .i32) (x5 : Vec F S2048x1 .i32) (x6 : Vec F S128x128 .f32) (x7 : Vec F S128x128 .f32) (x8 : Vec F S1x128 .f32) (x9 : Vec F S128x64 .f32) (x10 : Vec F S1x64 .f32) (x11 : Vec F S1x64 .f32) (x12 : Vec F S1x64 .f32) (x13 : Vec F S1x1 .f32) (Q : PUnit → sProp 𝕄) :
    iprop(owns (d.tc : Thread nD τ) M0 fullShare x0 ∗ owns (d.tc : Thread nD τ) M1 fullShare x1 ∗ owns (d.tc : Thread nD τ) M2 fullShare x2 ∗ owns (d.tc : Thread nD τ) M3 fullShare x3 ∗ owns (d.tc : Thread nD τ) M4 fullShare x4 ∗ owns (d.tc : Thread nD τ) M5 fullShare x5 ∗ owns (d.tc : Thread nD τ) M6 fullShare x6 ∗ owns (d.tc : Thread nD τ) M7 fullShare x7 ∗ owns (d.tc : Thread nD τ) M8 fullShare x8 ∗ owns (d.tc : Thread nD τ) M9 fullShare x9 ∗ owns (d.tc : Thread nD τ) M10 fullShare x10 ∗ owns (d.tc : Thread nD τ) M11 fullShare x11 ∗ owns (d.tc : Thread nD τ) M12 fullShare x12 ∗ owns (d.tc : Thread nD τ) M13 fullShare x13 ∗ (∃ y, owns (d.tc : Thread nD τ) M14 fullShare y)
        ∗ (iprop(owns (d.tc : Thread nD τ) M0 fullShare x0 ∗ owns (d.tc : Thread nD τ) M1 fullShare x1 ∗ owns (d.tc : Thread nD τ) M2 fullShare x2 ∗ owns (d.tc : Thread nD τ) M3 fullShare x3 ∗ owns (d.tc : Thread nD τ) M4 fullShare x4 ∗ owns (d.tc : Thread nD τ) M5 fullShare x5 ∗ owns (d.tc : Thread nD τ) M6 fullShare x6 ∗ owns (d.tc : Thread nD τ) M7 fullShare x7 ∗ owns (d.tc : Thread nD τ) M8 fullShare x8 ∗ owns (d.tc : Thread nD τ) M9 fullShare x9 ∗ owns (d.tc : Thread nD τ) M10 fullShare x10 ∗ owns (d.tc : Thread nD τ) M11 fullShare x11 ∗ owns (d.tc : Thread nD τ) M12 fullShare x12 ∗ owns (d.tc : Thread nD τ) M13 fullShare x13 ∗ owns (d.tc : Thread nD τ) M14 fullShare (head x0 x1 x2 x3 x4 x5 x6 x7 x8 x9 x10 x11 x12 x13)) -∗ Q ⟨⟩))
      ⊢ wp frame (wpE (defs₀ (F := F)) Variants.none (d.tc : Thread nD τ) none) Set.univ (cc1__tc_body i M0 h0 M1 h1 M2 h2 M3 h3 M4 h4 M5 h5 M6 h6 M7 h7 M8 h8 M9 h9 M10 h10 M11 h11 M12 h12 M13 h13 M14 h14) Q := by
  simp only [cc1__tc_body_eq_skeleton]; unfold cc1__tc_body_skel
  simp only [k1_part1_eq_skeleton]; unfold k1_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%y, %f14, -, H14⟩, Hk⟩
  subst e0 e1 e2 e3 e4 e5 e6 e7 e8 e9 e10 e11 e12 e13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  refine (View.read_writes_eq_canon _ _ _ ?_).trans ?_
  · intro y
    exact ⟨_, List.mem_singleton_self _, View.mem_set_unit_zero zero_pair Facts₀.inb_S2048x1_S2048x1_0_0 y⟩
  refine (View.canon_unit_zero zero_pair _ _).trans ?_
  dsimp only
  unfold head
  congr 1
  · congr 1 <;> exact View.ld_unit_zero zero_pair _ _
  · exact congrArg k1_pay3 (View.ld_unit_zero zero_pair _ _)
  · exact congrArg k1_pay4 (View.ld_unit_zero zero_pair _ _)
  · exact congrArg k1_pay5 (View.ld_unit_zero zero_pair _ _)
  all_goals exact View.ld_unit_zero zero_pair _ _

/-! ## The call's arrays and blocks, at the contents `V` it starts from -/

variable (V : Dev nD → Valuation τ sig (Elt F))
/-- The block of operand 0 at point `t`. -/
def blk0 (d : Dev nD) (t : Fin cfg1.N) : Vec F S2048x128 .f32 :=
  (win1_0.blk t).view.read (Elt F) (V d (Proc.devRef .tc main_v12_0))
/-- The block of operand 1 at point `t`. -/
def blk1 (d : Dev nD) (t : Fin cfg1.N) : Vec F S2048x128 .f32 :=
  (win1_1.blk t).view.read (Elt F) (V d (Proc.devRef .tc main_v12_1))
/-- The block of operand 2 at point `t`. -/
def blk2 (d : Dev nD) (t : Fin cfg1.N) : Vec F S2048x128 .f32 :=
  (win1_2.blk t).view.read (Elt F) (V d (Proc.devRef .tc main_v12_2))
/-- The block of operand 3 at point `t`. -/
def blk3 (d : Dev nD) (t : Fin cfg1.N) : Vec F S2048x128 .f32 :=
  (win1_3.blk t).view.read (Elt F) (V d (Proc.devRef .tc main_v12_3))
/-- The block of operand 4 at point `t`. -/
def blk4 (d : Dev nD) (t : Fin cfg1.N) : Vec F S2048x1 .i32 :=
  (win1_4.blk t).view.read (Elt F) (V d (Proc.devRef .tc main_v6))
/-- The block of operand 5 at point `t`. -/
def blk5 (d : Dev nD) (t : Fin cfg1.N) : Vec F S2048x1 .i32 :=
  (win1_5.blk t).view.read (Elt F) (V d (Proc.devRef .tc main_v9))
/-- The block of operand 6 at point `t`. -/
def blk6 (d : Dev nD) (t : Fin cfg1.N) : Vec F S128x128 .f32 :=
  (win1_6.blk t).view.read (Elt F) (V d (Proc.devRef .tc main_v13))
/-- The block of operand 7 at point `t`. -/
def blk7 (d : Dev nD) (t : Fin cfg1.N) : Vec F S128x128 .f32 :=
  (win1_7.blk t).view.read (Elt F) (V d (Proc.devRef .tc main_v14))
/-- The block of operand 8 at point `t`. -/
def blk8 (d : Dev nD) (t : Fin cfg1.N) : Vec F S1x128 .f32 :=
  (win1_8.blk t).view.read (Elt F) (V d (Proc.devRef .tc main_v19))
/-- The block of operand 9 at point `t`. -/
def blk9 (d : Dev nD) (t : Fin cfg1.N) : Vec F S128x64 .f32 :=
  (win1_9.blk t).view.read (Elt F) (V d (Proc.devRef .tc main_arg8))
/-- The block of operand 10 at point `t`. -/
def blk10 (d : Dev nD) (t : Fin cfg1.N) : Vec F S1x64 .f32 :=
  (win1_10.blk t).view.read (Elt F) (V d (Proc.devRef .tc main_v20))
/-- The block of operand 11 at point `t`. -/
def blk11 (d : Dev nD) (t : Fin cfg1.N) : Vec F S1x64 .f32 :=
  (win1_11.blk t).view.read (Elt F) (V d (Proc.devRef .tc main_v16))
/-- The block of operand 12 at point `t`. -/
def blk12 (d : Dev nD) (t : Fin cfg1.N) : Vec F S1x64 .f32 :=
  (win1_12.blk t).view.read (Elt F) (V d (Proc.devRef .tc main_v18))
/-- The block of operand 13 at point `t`. -/
def blk13 (d : Dev nD) (t : Fin cfg1.N) : Vec F S1x1 .f32 :=
  (win1_13.blk t).view.read (Elt F) (V d (Proc.devRef .tc main_v21))
/-- What point `t` writes. -/
def headAt (d : Dev nD) (t : Fin cfg1.N) : Vec F S2048x1 .f32 :=
  head (blk0 V d t) (blk1 V d t) (blk2 V d t) (blk3 V d t) (blk4 V d t) (blk5 V d t) (blk6 V d t) (blk7 V d t) (blk8 V d t) (blk9 V d t) (blk10 V d t) (blk11 V d t) (blk12 V d t) (blk13 V d t)

/-- The call's proof data on device `d`: its arrays at `V d`; the body leaves each operand's buffer at its block and the
result's at `headAt`; nothing is kept beside, nothing owed. -/
def dat (d : Dev nD) : Dat τ (Elt F) (HIx 1) ℕ UU ℕ cfg1 d where
  A w := V d (Proc.devRef .tc (Pipeline.arrRef spec1 w))
  after w t := match w with
    | ⟨0, _⟩ => blk0 V d t
    | ⟨1, _⟩ => blk1 V d t
    | ⟨2, _⟩ => blk2 V d t
    | ⟨3, _⟩ => blk3 V d t
    | ⟨4, _⟩ => blk4 V d t
    | ⟨5, _⟩ => blk5 V d t
    | ⟨6, _⟩ => blk6 V d t
    | ⟨7, _⟩ => blk7 V d t
    | ⟨8, _⟩ => blk8 V d t
    | ⟨9, _⟩ => blk9 V d t
    | ⟨10, _⟩ => blk10 V d t
    | ⟨11, _⟩ => blk11 V d t
    | ⟨12, _⟩ => blk12 V d t
    | ⟨13, _⟩ => blk13 V d t
    | ⟨14, _⟩ => headAt V d t
    | ⟨_ + 15, h⟩ => absurd h (Nat.not_lt.2 (Nat.le_add_left _ _))
  Φ _ := BI.emp
  q _ := fullShare
  owed _ := 0
theorem after0 (d : Dev nD) (t : Fin cfg1.N) : (dat V d).after 0 t = blk0 V d t := by dsimp only [dat]
theorem after1 (d : Dev nD) (t : Fin cfg1.N) : (dat V d).after 1 t = blk1 V d t := by dsimp only [dat]
theorem after2 (d : Dev nD) (t : Fin cfg1.N) : (dat V d).after 2 t = blk2 V d t := by dsimp only [dat]
theorem after3 (d : Dev nD) (t : Fin cfg1.N) : (dat V d).after 3 t = blk3 V d t := by dsimp only [dat]
theorem after4 (d : Dev nD) (t : Fin cfg1.N) : (dat V d).after 4 t = blk4 V d t := by dsimp only [dat]
theorem after5 (d : Dev nD) (t : Fin cfg1.N) : (dat V d).after 5 t = blk5 V d t := by dsimp only [dat]
theorem after6 (d : Dev nD) (t : Fin cfg1.N) : (dat V d).after 6 t = blk6 V d t := by dsimp only [dat]
theorem after7 (d : Dev nD) (t : Fin cfg1.N) : (dat V d).after 7 t = blk7 V d t := by dsimp only [dat]
theorem after8 (d : Dev nD) (t : Fin cfg1.N) : (dat V d).after 8 t = blk8 V d t := by dsimp only [dat]
theorem after9 (d : Dev nD) (t : Fin cfg1.N) : (dat V d).after 9 t = blk9 V d t := by dsimp only [dat]
theorem after10 (d : Dev nD) (t : Fin cfg1.N) : (dat V d).after 10 t = blk10 V d t := by dsimp only [dat]
theorem after11 (d : Dev nD) (t : Fin cfg1.N) : (dat V d).after 11 t = blk11 V d t := by dsimp only [dat]
theorem after12 (d : Dev nD) (t : Fin cfg1.N) : (dat V d).after 12 t = blk12 V d t := by dsimp only [dat]
theorem after13 (d : Dev nD) (t : Fin cfg1.N) : (dat V d).after 13 t = blk13 V d t := by dsimp only [dat]
theorem after14 (d : Dev nD) (t : Fin cfg1.N) : (dat V d).after 14 t = headAt V d t := by dsimp only [dat]
theorem before0 (d : Dev nD) (t : Fin cfg1.N) (e) : (dat V d).before 0 t e = blk0 V d t := by
  rw [(dat V d).before_in_eq_fetched 0 rfl (fun _ => rfl) (fun _ _ _ => rfl)
    (fun t => by rw [after0]; unfold blk0 Dat.blockOf; rfl) t e]
  unfold blk0 Dat.fetched Dat.blockOf; rfl
theorem before1 (d : Dev nD) (t : Fin cfg1.N) (e) : (dat V d).before 1 t e = blk1 V d t := by
  rw [(dat V d).before_in_eq_fetched 1 rfl (fun _ => rfl) (fun _ _ _ => rfl)
    (fun t => by rw [after1]; unfold blk1 Dat.blockOf; rfl) t e]
  unfold blk1 Dat.fetched Dat.blockOf; rfl
theorem before2 (d : Dev nD) (t : Fin cfg1.N) (e) : (dat V d).before 2 t e = blk2 V d t := by
  rw [(dat V d).before_in_eq_fetched 2 rfl (fun _ => rfl) (fun _ _ _ => rfl)
    (fun t => by rw [after2]; unfold blk2 Dat.blockOf; rfl) t e]
  unfold blk2 Dat.fetched Dat.blockOf; rfl
theorem before3 (d : Dev nD) (t : Fin cfg1.N) (e) : (dat V d).before 3 t e = blk3 V d t := by
  rw [(dat V d).before_in_eq_fetched 3 rfl (fun _ => rfl) (fun _ _ _ => rfl)
    (fun t => by rw [after3]; unfold blk3 Dat.blockOf; rfl) t e]
  unfold blk3 Dat.fetched Dat.blockOf; rfl
theorem before4 (d : Dev nD) (t : Fin cfg1.N) (e) : (dat V d).before 4 t e = blk4 V d t := by
  rw [(dat V d).before_in_eq_fetched 4 rfl (fun _ => rfl) (fun _ _ _ => rfl)
    (fun t => by rw [after4]; unfold blk4 Dat.blockOf; rfl) t e]
  unfold blk4 Dat.fetched Dat.blockOf; rfl
theorem before5 (d : Dev nD) (t : Fin cfg1.N) (e) : (dat V d).before 5 t e = blk5 V d t := by
  rw [(dat V d).before_in_eq_fetched 5 rfl (fun _ => rfl) (fun _ _ _ => rfl)
    (fun t => by rw [after5]; unfold blk5 Dat.blockOf; rfl) t e]
  unfold blk5 Dat.fetched Dat.blockOf; rfl
theorem before6 (d : Dev nD) (t : Fin cfg1.N) (e) : (dat V d).before 6 t e = blk6 V d t := by
  rw [(dat V d).before_in_eq_fetched 6 rfl (fun _ => rfl) (fun _ _ _ => rfl)
    (fun t => by rw [after6]; unfold blk6 Dat.blockOf; rfl) t e]
  unfold blk6 Dat.fetched Dat.blockOf; rfl
theorem before7 (d : Dev nD) (t : Fin cfg1.N) (e) : (dat V d).before 7 t e = blk7 V d t := by
  rw [(dat V d).before_in_eq_fetched 7 rfl (fun _ => rfl) (fun _ _ _ => rfl)
    (fun t => by rw [after7]; unfold blk7 Dat.blockOf; rfl) t e]
  unfold blk7 Dat.fetched Dat.blockOf; rfl
theorem before8 (d : Dev nD) (t : Fin cfg1.N) (e) : (dat V d).before 8 t e = blk8 V d t := by
  rw [(dat V d).before_in_eq_fetched 8 rfl (fun _ => rfl) (fun _ _ _ => rfl)
    (fun t => by rw [after8]; unfold blk8 Dat.blockOf; rfl) t e]
  unfold blk8 Dat.fetched Dat.blockOf; rfl
theorem before9 (d : Dev nD) (t : Fin cfg1.N) (e) : (dat V d).before 9 t e = blk9 V d t := by
  rw [(dat V d).before_in_eq_fetched 9 rfl (fun _ => rfl) (fun _ _ _ => rfl)
    (fun t => by rw [after9]; unfold blk9 Dat.blockOf; rfl) t e]
  unfold blk9 Dat.fetched Dat.blockOf; rfl
theorem before10 (d : Dev nD) (t : Fin cfg1.N) (e) : (dat V d).before 10 t e = blk10 V d t := by
  rw [(dat V d).before_in_eq_fetched 10 rfl (fun _ => rfl) (fun _ _ _ => rfl)
    (fun t => by rw [after10]; unfold blk10 Dat.blockOf; rfl) t e]
  unfold blk10 Dat.fetched Dat.blockOf; rfl
theorem before11 (d : Dev nD) (t : Fin cfg1.N) (e) : (dat V d).before 11 t e = blk11 V d t := by
  rw [(dat V d).before_in_eq_fetched 11 rfl (fun _ => rfl) (fun _ _ _ => rfl)
    (fun t => by rw [after11]; unfold blk11 Dat.blockOf; rfl) t e]
  unfold blk11 Dat.fetched Dat.blockOf; rfl
theorem before12 (d : Dev nD) (t : Fin cfg1.N) (e) : (dat V d).before 12 t e = blk12 V d t := by
  rw [(dat V d).before_in_eq_fetched 12 rfl (fun _ => rfl) (fun _ _ _ => rfl)
    (fun t => by rw [after12]; unfold blk12 Dat.blockOf; rfl) t e]
  unfold blk12 Dat.fetched Dat.blockOf; rfl
theorem before13 (d : Dev nD) (t : Fin cfg1.N) (e) : (dat V d).before 13 t e = blk13 V d t := by
  rw [(dat V d).before_in_eq_fetched 13 rfl (fun _ => rfl) (fun _ _ _ => rfl)
    (fun t => by rw [after13]; unfold blk13 Dat.blockOf; rfl) t e]
  unfold blk13 Dat.fetched Dat.blockOf; rfl
/-- What the body is called with at point `t`, -/
def bodyPre (d : Dev nD) (t : Fin cfg1.N) : sProp 𝕄 :=
  iprop((dat V d).Φ t.castSucc ∗ (dat V d).owesAt none t.castSucc
    ∗ (∃ e, owns (d.tc : Thread nD τ) (st1_0 t) fullShare ((dat V d).before 0 t e))
    ∗ (∃ e, owns (d.tc : Thread nD τ) (st1_1 t) fullShare ((dat V d).before 1 t e))
    ∗ (∃ e, owns (d.tc : Thread nD τ) (st1_2 t) fullShare ((dat V d).before 2 t e))
    ∗ (∃ e, owns (d.tc : Thread nD τ) (st1_3 t) fullShare ((dat V d).before 3 t e))
    ∗ (∃ e, owns (d.tc : Thread nD τ) (st1_4 t) fullShare ((dat V d).before 4 t e))
    ∗ (∃ e, owns (d.tc : Thread nD τ) (st1_5 t) fullShare ((dat V d).before 5 t e))
    ∗ (∃ e, owns (d.tc : Thread nD τ) (st1_6 t) fullShare ((dat V d).before 6 t e))
    ∗ (∃ e, owns (d.tc : Thread nD τ) (st1_7 t) fullShare ((dat V d).before 7 t e))
    ∗ (∃ e, owns (d.tc : Thread nD τ) (st1_8 t) fullShare ((dat V d).before 8 t e))
    ∗ (∃ e, owns (d.tc : Thread nD τ) (st1_9 t) fullShare ((dat V d).before 9 t e))
    ∗ (∃ e, owns (d.tc : Thread nD τ) (st1_10 t) fullShare ((dat V d).before 10 t e))
    ∗ (∃ e, owns (d.tc : Thread nD τ) (st1_11 t) fullShare ((dat V d).before 11 t e))
    ∗ (∃ e, owns (d.tc : Thread nD τ) (st1_12 t) fullShare ((dat V d).before 12 t e))
    ∗ (∃ e, owns (d.tc : Thread nD τ) (st1_13 t) fullShare ((dat V d).before 13 t e))
    ∗ (∃ e, owns (d.tc : Thread nD τ) (st1_14 t) fullShare ((dat V d).before 14 t e)))

/-- and what it returns. -/
def bodyPost (d : Dev nD) (t : Fin cfg1.N) : sProp 𝕄 :=
  iprop((dat V d).Φ t.succ ∗ (dat V d).owesAt none t.succ
    ∗ owns (d.tc : Thread nD τ) (st1_0 t) fullShare ((dat V d).after 0 t)
    ∗ owns (d.tc : Thread nD τ) (st1_1 t) fullShare ((dat V d).after 1 t)
    ∗ owns (d.tc : Thread nD τ) (st1_2 t) fullShare ((dat V d).after 2 t)
    ∗ owns (d.tc : Thread nD τ) (st1_3 t) fullShare ((dat V d).after 3 t)
    ∗ owns (d.tc : Thread nD τ) (st1_4 t) fullShare ((dat V d).after 4 t)
    ∗ owns (d.tc : Thread nD τ) (st1_5 t) fullShare ((dat V d).after 5 t)
    ∗ owns (d.tc : Thread nD τ) (st1_6 t) fullShare ((dat V d).after 6 t)
    ∗ owns (d.tc : Thread nD τ) (st1_7 t) fullShare ((dat V d).after 7 t)
    ∗ owns (d.tc : Thread nD τ) (st1_8 t) fullShare ((dat V d).after 8 t)
    ∗ owns (d.tc : Thread nD τ) (st1_9 t) fullShare ((dat V d).after 9 t)
    ∗ owns (d.tc : Thread nD τ) (st1_10 t) fullShare ((dat V d).after 10 t)
    ∗ owns (d.tc : Thread nD τ) (st1_11 t) fullShare ((dat V d).after 11 t)
    ∗ owns (d.tc : Thread nD τ) (st1_12 t) fullShare ((dat V d).after 12 t)
    ∗ owns (d.tc : Thread nD τ) (st1_13 t) fullShare ((dat V d).after 13 t)
    ∗ owns (d.tc : Thread nD τ) (st1_14 t) fullShare ((dat V d).after 14 t))

theorem body_at (d : Dev nD) (t : Fin cfg1.N) :
    bodyPre V d t ⊢ wp frame (wpE (defs₀ (F := F)) Variants.none (d.tc : Thread nD τ) none) Set.univ (bodyAt1 t)
      (fun _ => bodyPost V d t) := by
  unfold bodyPre bodyPost bodyAt1
  simp only [before0, before1, before2, before3, before4, before5, before6, before7, before8, before9, before10, before11, before12, before13]
  rw [show (dat V d).Φ t.succ = (dat V d).Φ t.castSucc from rfl,
    show (dat V d).owesAt none t.succ = (dat V d).owesAt none t.castSucc from rfl,
    after0, after1, after2, after3, after4, after5, after6, after7, after8, after9, after10, after11, after12, after13, after14]
  iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩⟩
  iapply (head_run d _ _ _ _ _ _ _ _ _ _ _ _ _ _ _ _ _ _ _ _ _ _ _ _ _ _ _ _ _ _ _ (blk0 V d t) (blk1 V d t) (blk2 V d t) (blk3 V d t) (blk4 V d t) (blk5 V d t) (blk6 V d t) (blk7 V d t) (blk8 V d t) (blk9 V d t) (blk10 V d t) (blk11 V d t) (blk12 V d t) (blk13 V d t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold headAt
  iexact H14

theorem body_row (t : Fin cfg1.N) :
    defs₀ (F := F) .tc cfg1.body (cfg1.bodyArgs t (cfg1.slots t)) = bodyAt1 t := by
  unfold defs₀; rfl

theorem body_obligation (d : Dev nD) : BodyObligation (dat V d) (defs₀ (F := F)) Variants.none none Set.univ := fun t => by
  rw [bigSep_W1, bigSep_W1, body_row]
  exact triple_restated (body_at V d t) rfl .rfl fun _ => .rfl

end Cert.Proof

end
-- ==== Proof.Region.lean ====
/-
  THE TENSORCORE CALL: what its result array holds at the end, and its place in @main after the SparseCore call.
-/
module

public import proofs.«01_k».proof.Proof.Tc

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (V : Dev nD → Valuation τ sig (Elt F))

/-! ## The result array -/

/-- Row `r` of the result is row `r % 2048` of what point `r / 2048` writes. -/
def res (d : Dev nD) : Vec F S16384x1 .f32 := fun j =>
  headAt V d ⟨(j 0).val / 2048, by
    have h0 : (j 0).val < 16384 := (j 0).isLt
    have hN : cfg1.N = 8 := N_1
    omega⟩ (ix2 ⟨(j 0).val % 2048, Nat.mod_lt _ (by norm_num)⟩ 0)

theorem index14 : ∀ t : Fin grid1.N, win1_14.index t = ![t.val, 0] := by decide +kernel

theorem res_eq (d : Dev nD) : (dat V d).arrAt 14 cfg1.N = res V d := by
  refine (dat V d).arrAt_eq_of_covers 14 _ (by decide +kernel) fun t _ y => ?_
  rw [after14]
  have h0 : (y 0 : ℕ) < 2048 := (y 0).isLt
  have h1 : (y 1 : ℕ) < 1 := (y 1).isLt
  have e0 : (((cfg1.win 14).blk t).view.emb y 0 : ℕ) = t.val * 2048 + (y 0).val := by
    blk_simp [index14]
  show headAt V d t y = res V d _
  unfold res
  have et : (⟨(((cfg1.win 14).blk t).view.emb y 0 : ℕ) / 2048, by
      rw [e0]; have ht : t.val < cfg1.N := t.isLt; have hN : cfg1.N = 8 := N_1; omega⟩ : Fin cfg1.N) = t := Fin.ext (by show _ / 2048 = _; rw [e0]; omega)
  have ey : (ix2 ⟨(((cfg1.win 14).blk t).view.emb y 0 : ℕ) % 2048, Nat.mod_lt _ (by norm_num)⟩ 0 : S2048x1.Idx) = y := by
    funext a
    match a with
    | ⟨0, _⟩ => exact Fin.ext (by show _ % 2048 = (y 0 : ℕ); rw [e0]; omega)
    | ⟨1, _⟩ => exact Fin.ext (by show 0 = (y 1 : ℕ); omega)
  rw [ey]
  exact congrArg (fun t => headAt V d t y) et.symm

/-! ## The call as a region -/

/-- What the call leaves: the result array at `res`, the rest as it was. -/
def leave (d : Dev nD) : Valuation τ sig (Elt F) := Function.update (V d) (Proc.devRef .tc main_v22) (res V d)

abbrev pdats : (p : Fin 1) → (d : Dev nD) → Dat τ (Elt F) (HIx 1) ℕ UU ℕ (pcs (F := F) p) d := fun _ d => dat V d

theorem arrAt_leave (d : Dev nD) : ∀ w : Fin 15, (dat V d).arrAt w cfg1.N = leave V d (Proc.devRef .tc (Pipeline.arrRef spec1 w)) := by
  have hin : ∀ w : Fin 15, (cfg1.win w).isOut = false → Pipeline.arrRef spec1 w ≠ main_v22 →
      (dat V d).arrAt w cfg1.N = leave V d (Proc.devRef .tc (Pipeline.arrRef spec1 w)) := fun w ho hne => by
    rw [(dat V d).arrAt_in w ho cfg1.N]
    unfold leave
    rw [Function.update_of_ne fun h => hne (Proc.devRef_injective _ h)]
    rfl
  intro w
  by_cases hw : w = 14
  · subst hw
    unfold leave
    rw [res_eq]
    exact (Function.update_self (Proc.devRef (τ := τ) .tc main_v22) (res V d) (V d)).symm
  · revert w
    intro w hw
    have h1 : ∀ w : Fin 15, w ≠ 14 → (cfg1.win w).isOut = false := by decide +kernel
    have h2 : ∀ w : Fin 15, w ≠ 14 → Pipeline.arrRef spec1 w ≠ main_v22 := by decide +kernel
    exact hin w (h1 w hw) (h2 w hw)

theorem cut : Pipeline.LevelCut (nD := nD) (pcfgs (F := F)) adm (none : HIx 1) (K (F := F)).L (K (F := F)).lev 0 (fun _ => 0) (fun _ => 0) where
  hι _ _ _ := Finset.mem_univ _
  hιb _ _ _ := le_refl _
  hD _ _ _ h := absurd h (Nat.lt_irrefl 0)

set_option backward.isDefEq.respectTransparency.types false in
def reg : Pipeline.RegionSeg (pcfgs (F := F)) adm (pdats V) (none : HIx 1) defs₀ 𝒱₀ (K (F := F)).L (K (F := F)).lev 0 :=
  Pipeline.RegionSeg.ofHeld (pcfgs (F := F)) adm (pdats V) none defs₀ 𝒱₀ (K (F := F)).L (K (F := F)).lev 0 (fun _ => 0)
    (fun _ => BI.emp) (fun _ => BI.emp) launch1.toP rfl (fun d => (body_obligation V d).loose) (fun _ _ => rfl) (fun _ => rfl)
    (fun d => (dat V d).share_full fun _ => rfl)
    (fun d => by
      show iprop(Pipeline.scopedRest spec1 d ∗ BI.emp) ⊢ BI.emp
      rw [scopedRest1_eq]; iintro ⟨-, -⟩; iempintro)
    (fun d => by
      show BI.emp ⊢ iprop(Pipeline.scopedRest spec1 d ∗ BI.emp)
      rw [scopedRest1_eq]; iintro -; isplitl; · iempintro
      iempintro)
    (fun _ => 0) cut (fun _ => BI.emp) V (leave V) (fun _ _ => rfl) (fun d w => arrAt_leave V d w)

/-- What the region is entered with, and what it leaves. -/
def around (d : Dev nD) (W : Valuation τ sig (Elt F)) : sProp 𝕄 :=
  iprop(held (T d : Thread nD τ) (Pipeline.arrRefs (τ := τ) (pcfgs (F := F) 0).spec) W ∗ BI.emp ∗ BI.emp ∗ ∃ Wd, owes (T d) 0 Wd)

theorem reg_pre (d : Dev nD) : (reg V).pre d = around d (V d) := rfl

theorem reg_post (d : Dev nD) : (reg V).post d = around d (leave V d) := rfl

/-- The levels no longer matter once the last SparseCore call is over. -/
theorem below_end (d : Dev nD) (W : Waits sig (HIx 1)) : (K (F := F)).WBelow (T d) W (8 * 1) := fun p _ => by
  match p.2 with
  | none => exact Nat.zero_le _
  | some q =>
    have h := (K (F := F)).lev_some_le (N := 1) (T d, p.1) q
    have hq : q.val < 1 := q.isLt
    omega

variable [∀ e, Nonempty (Elt F e)]

/-- The TensorCore call in @main, after the SparseCore call. -/
theorem tc_step (A : Dev nD → CallIn F) (κ : GSem nD τ sig → ℕ) (d : Dev nD) (Φ : PUnit → sProp 𝕄) :
    iprop((K (F := F)).ctx EH (P A) κ ∗ (K (F := F)).tcSt EH d 1 ∗ G d ∗ boundary (T d)
        ∗ held (T d : Thread nD τ) (Pipeline.ucRefs τ sig) (V d)
        ∗ (iprop((K (F := F)).tcSt EH d 1 ∗ boundary (T d) ∗ held (T d : Thread nD τ) (Pipeline.ucRefs τ sig) (leave V d)) -∗ Φ ⟨⟩))
      ⊢ wp frame (wpE ((K (F := F)).defs D) 𝒱 (T d) none) Set.univ
          (Prog.lift (.customCall (SparseCore.inner (Pipeline.entry 0)) ())) Φ := by
  have hsub : Pipeline.arrRefs (τ := τ) (pcfgs (F := F) 0).spec ⊆ Pipeline.ucRefs τ sig :=
    Pipeline.arrRefs_sub_ucRefs _ winFacts1.arr_unscoped
  have hrest : (held (T d : Thread nD τ) (Pipeline.ucRefs τ sig \ Pipeline.arrRefs (τ := τ) (pcfgs (F := F) 0).spec) (leave V d) : sProp 𝕄)
      = held (T d : Thread nD τ) (Pipeline.ucRefs τ sig \ Pipeline.arrRefs (τ := τ) (pcfgs (F := F) 0).spec) (V d) :=
    held_congr _ fun b hb => Function.update_of_ne (fun e => (Finset.mem_sdiff.mp hb).2 (by
      rw [e]; exact Finset.mem_map_of_mem _ (Finset.mem_image.mpr ⟨(14 : Fin 15), Finset.mem_univ _, rfl⟩))) _ _
  rw [held_sub_split _ hsub (V d), held_sub_split _ hsub (leave V d), hrest]
  unfold SparseCore.Cfg.tcSt SparseCore.Cfg.ctx G
  iintro ⟨⟨#Hlev, -⟩, ⟨⟨%W, -, Ho⟩, Hst⟩, ⟨Hg, Ht⟩, Hb, ⟨Ha, Hr⟩, Hk⟩
  iapply ((K (F := F)).wp_liftProg D 𝒱 (T d) Set.univ none (Prog.lift (.customCall (Pipeline.entry 0) ())) Φ)
  iapply ((reg V).wp (pcfgs (F := F)) adm (pdats V) none phinj EP defs₀ 𝒱₀ (K (F := F)).L (K (F := F)).lev d none (fun _ h => nomatch h) (fun _ => .ret ⟨⟩) Φ)
  rw [reg_pre, reg_post]
  unfold around
  isplitl [Hst Hr Hk]
  · iintro ⟨Hb, Ha, -, -, ⟨%W', Ho⟩⟩
    rw [wp_ret]; imodintro
    iapply Hk
    isplitl [Ho Hst]
    · isplitl [Ho]
      · iexists W'
        isplitr; · ipureintro; exact below_end d W'
        rw [(K (F := F)).Otc_end d (le_refl 1)]
        iexact Ho
      iexact Hst
    isplitl [Hb]; · iexact Hb
    isplitl [Ha]; · iexact Ha
    iexact Hr
  isplitl [Hb]; · iexact Hb
  isplitl [Ha Ho]
  · isplitl [Ha]; · iexact Ha
    isplitr; · iempintro
    isplitr; · iempintro
    iexists W
    rw [(K (F := F)).Otc_end d (le_refl 1)]
    iexact Ho
  isplitr; · iexact Hlev
  isplitl [Hg]; · iexact Hg
  iexact Ht

end Cert.Proof

end
-- ==== Proof.Main.lean ====
/-
  THE RUN OF @MAIN: host operations, the SparseCore call, host operations, the TensorCore call, one host operation; and what
  it leaves in every array, as one valuation of them after each stretch.
-/
module

public import proofs.«01_k».proof.Proof.Region

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations -/

/-- The host operations before the SparseCore call. -/
def hostA : List (HloOp τ sig (Elt F)) :=
  [ StableHlo.nullary main_c (constantI S_ 32 1#32)
  , StableHlo.unary main_c main_v0 (broadcastInDim S16384 ![] bcast_S_S16384 : (⟨S_, .i32⟩ : BufTy).Contents (Elt F) → (⟨S16384, .i32⟩ : BufTy).Contents (Elt F))
  , StableHlo.binary main_arg0 main_v0 main_v1 (Host.shrui : (⟨S16384, .i32⟩ : BufTy).Contents (Elt F) → (⟨S16384, .i32⟩ : BufTy).Contents (Elt F) → (⟨S16384, .i32⟩ : BufTy).Contents (Elt F))
  , StableHlo.nullary main_c_0 (constantI S_ 32 1#32)
  , StableHlo.unary main_c_0 main_v2 (broadcastInDim S16384 ![] bcast_S_S16384 : (⟨S_, .i32⟩ : BufTy).Contents (Elt F) → (⟨S16384, .i32⟩ : BufTy).Contents (Elt F))
  , StableHlo.binary main_arg1 main_v2 main_v3 (Host.shrui : (⟨S16384, .i32⟩ : BufTy).Contents (Elt F) → (⟨S16384, .i32⟩ : BufTy).Contents (Elt F) → (⟨S16384, .i32⟩ : BufTy).Contents (Elt F))
  , StableHlo.nullary main_c_1 (constantI S_ 32 1#32)
  , StableHlo.unary main_c_1 main_v4 (broadcastInDim S16384 ![] bcast_S_S16384 : (⟨S_, .i32⟩ : BufTy).Contents (Elt F) → (⟨S16384, .i32⟩ : BufTy).Contents (Elt F))
  , StableHlo.binary main_arg0 main_v4 main_v5 (andi : (⟨S16384, .i32⟩ : BufTy).Contents (Elt F) → (⟨S16384, .i32⟩ : BufTy).Contents (Elt F) → (⟨S16384, .i32⟩ : BufTy).Contents (Elt F))
  , StableHlo.reshape main_v5 main_v6 (rfl : (.i32 : EltTy) = .i32) shapeCasts_S16384_S16384x1
  , StableHlo.nullary main_c_2 (constantI S_ 32 1#32)
  , StableHlo.unary main_c_2 main_v7 (broadcastInDim S16384 ![] bcast_S_S16384 : (⟨S_, .i32⟩ : BufTy).Contents (Elt F) → (⟨S16384, .i32⟩ : BufTy).Contents (Elt F))
  , StableHlo.binary main_arg1 main_v7 main_v8 (andi : (⟨S16384, .i32⟩ : BufTy).Contents (Elt F) → (⟨S16384, .i32⟩ : BufTy).Contents (Elt F) → (⟨S16384, .i32⟩ : BufTy).Contents (Elt F))
  , StableHlo.reshape main_v8 main_v9 (rfl : (.i32 : EltTy) = .i32) shapeCasts_S16384_S16384x1
  , StableHlo.reshape main_arg2 main_v10 (rfl : (.f32 : EltTy) = .f32) shapeCasts_S100000x64_S50000x128
  , StableHlo.reshape main_arg3 main_v11 (rfl : (.f32 : EltTy) = .f32) shapeCasts_S100000x64_S50000x128 ]

/-- The arrays they write. -/
def hostAW : List (Ref sig .tc) := [main_c, main_v0, main_v1, main_c_0, main_v2, main_v3, main_c_1, main_v4, main_v5, main_v6, main_c_2, main_v7, main_v8, main_v9, main_v10, main_v11]

theorem hostA_keeps (V : Valuation τ sig (Elt F)) {r : Ref sig .tc} (hr : r ∉ hostAW) :
    after hostA V (Proc.devRef .tc r) = V (Proc.devRef .tc r) :=
  after_of_writes_sub (W := hostAW) hostA V (forall_writes_sub_of_map rfl) hr

theorem hostA_sub : ∀ op ∈ (hostA : List (HloOp τ sig (Elt F))), op.bufs ⊆ Pipeline.ucRefs τ sig := by
  have h : (hostA : List (HloOp τ sig (Elt F))).Forall fun op => op.bufs ⊆ tcRefs τ sig := by
    simp only [hostA, List.Forall, nullary_bufs_sub, unary_bufs_sub, binary_bufs_sub, reshape_bufs_sub, and_self]
  exact fun op hop => Pipeline.sub_ucRefs op (List.forall_iff_forall_mem.mp h op hop)

theorem hostA_fresh : ∀ op ∈ (hostA : List (HloOp τ sig (Elt F))), op.fresh = ∅ :=
  List.forall_iff_forall_mem.mp (forall_fresh_of_map rfl)

/-- The host operations between the calls. -/
def hostB : List (HloOp τ sig (Elt F)) :=
  [ StableHlo.unary main_arg6 main_v13 ((extractStridedSlice S128x128 ![0, 0] · slices_S256x128_S128x128_0_0) : (⟨S256x128, .f32⟩ : BufTy).Contents (Elt F) → (⟨S128x128, .f32⟩ : BufTy).Contents (Elt F))
  , StableHlo.unary main_arg6 main_v14 ((extractStridedSlice S128x128 ![128, 0] · slices_S256x128_S128x128_128_0) : (⟨S256x128, .f32⟩ : BufTy).Contents (Elt F) → (⟨S128x128, .f32⟩ : BufTy).Contents (Elt F))
  , StableHlo.unary main_arg10 main_v15 ((extractStridedSlice S64x1 ![0, 0] · slices_S128x1_S64x1_0_0) : (⟨S128x1, .f32⟩ : BufTy).Contents (Elt F) → (⟨S64x1, .f32⟩ : BufTy).Contents (Elt F))
  , StableHlo.reshape main_v15 main_v16 (rfl : (.f32 : EltTy) = .f32) shapeCasts_S64x1_S1x64
  , StableHlo.unary main_arg10 main_v17 ((extractStridedSlice S64x1 ![64, 0] · slices_S128x1_S64x1_64_0) : (⟨S128x1, .f32⟩ : BufTy).Contents (Elt F) → (⟨S64x1, .f32⟩ : BufTy).Contents (Elt F))
  , StableHlo.reshape main_v17 main_v18 (rfl : (.f32 : EltTy) = .f32) shapeCasts_S64x1_S1x64
  , StableHlo.reshape main_arg7 main_v19 (rfl : (.f32 : EltTy) = .f32) shapeCasts_S128_S1x128
  , StableHlo.reshape main_arg9 main_v20 (rfl : (.f32 : EltTy) = .f32) shapeCasts_S64_S1x64
  , StableHlo.reshape main_arg11 main_v21 (rfl : (.f32 : EltTy) = .f32) shapeCasts_S1_S1x1 ]

/-- The arrays they write. -/
def hostBW : List (Ref sig .tc) := [main_v13, main_v14, main_v15, main_v16, main_v17, main_v18, main_v19, main_v20, main_v21]

theorem hostB_keeps (V : Valuation τ sig (Elt F)) {r : Ref sig .tc} (hr : r ∉ hostBW) :
    after hostB V (Proc.devRef .tc r) = V (Proc.devRef .tc r) :=
  after_of_writes_sub (W := hostBW) hostB V (forall_writes_sub_of_map rfl) hr

theorem hostB_sub : ∀ op ∈ (hostB : List (HloOp τ sig (Elt F))), op.bufs ⊆ Pipeline.ucRefs τ sig := by
  have h : (hostB : List (HloOp τ sig (Elt F))).Forall fun op => op.bufs ⊆ tcRefs τ sig := by
    simp only [hostB, List.Forall, nullary_bufs_sub, unary_bufs_sub, binary_bufs_sub, reshape_bufs_sub, and_self]
  exact fun op hop => Pipeline.sub_ucRefs op (List.forall_iff_forall_mem.mp h op hop)

theorem hostB_fresh : ∀ op ∈ (hostB : List (HloOp τ sig (Elt F))), op.fresh = ∅ :=
  List.forall_iff_forall_mem.mp (forall_fresh_of_map rfl)

/-- The host operations after the TensorCore call. -/
def hostC : List (HloOp τ sig (Elt F)) :=
  [ StableHlo.reshape main_v22 main_v23 (rfl : (.f32 : EltTy) = .f32) shapeCasts_S16384x1_S16384 ]

/-- The arrays they write. -/
def hostCW : List (Ref sig .tc) := [main_v23]

theorem hostC_keeps (V : Valuation τ sig (Elt F)) {r : Ref sig .tc} (hr : r ∉ hostCW) :
    after hostC V (Proc.devRef .tc r) = V (Proc.devRef .tc r) :=
  after_of_writes_sub (W := hostCW) hostC V (forall_writes_sub_of_map rfl) hr

theorem hostC_sub : ∀ op ∈ (hostC : List (HloOp τ sig (Elt F))), op.bufs ⊆ Pipeline.ucRefs τ sig := by
  have h : (hostC : List (HloOp τ sig (Elt F))).Forall fun op => op.bufs ⊆ tcRefs τ sig := by
    simp only [hostC, List.Forall, nullary_bufs_sub, unary_bufs_sub, binary_bufs_sub, reshape_bufs_sub, and_self]
  exact fun op hop => Pipeline.sub_ucRefs op (List.forall_iff_forall_mem.mp h op hop)

theorem hostC_fresh : ∀ op ∈ (hostC : List (HloOp τ sig (Elt F))), op.fresh = ∅ :=
  List.forall_iff_forall_mem.mp (forall_fresh_of_map rfl)

/-- @main: the three stretches and the two calls. -/
theorem main_eq (d : Dev nD) : main (F := F) d
    = seq hostA >>= fun _ => (K (F := F)).run d 0 >>= fun _ => seq hostB >>= fun _ =>
        Prog.lift (.customCall (SparseCore.inner (Pipeline.entry 0)) ()) >>= fun _ => seq hostC >>= fun _ => pure ⟨⟩ := by
  rw [seq_bind_seqK, seq_bind_seqK, seq_bind_seqK]
  rfl

/-! ## The arrays after each stretch -/

variable (m : (ℓ : Loc nD τ sig) → Buf (Elt F) ℓ) (ρ : Dev nD → PrngReg)

/-- At the SparseCore call, -/
def V₁ (d : Dev nD) : Valuation τ sig (Elt F) := after hostA fun b => m (d, b)

/-- what a valuation has in the call's input arrays, -/
def insOf (W : Valuation τ sig (Elt F)) : Ins F where
  t0 := W (Proc.devRef .tc main_v10)
  t1 := W (Proc.devRef .tc main_v11)
  t2 := W (Proc.devRef .tc main_arg4)
  t3 := W (Proc.devRef .tc main_arg5)
  x0 := W (Proc.devRef .tc main_v1)
  x1 := W (Proc.devRef .tc main_v3)
  x2 := W (Proc.devRef .tc main_arg0)
  x3 := W (Proc.devRef .tc main_arg1)

/-- the call's inputs, -/
def callIns (d : Dev nD) : Ins F := insOf (V₁ m d)

def callIn (d : Dev nD) : CallIn F :=
  ⟨callIns m d, V₁ m d (Proc.devRef .tc main_v12_0), V₁ m d (Proc.devRef .tc main_v12_1), V₁ m d (Proc.devRef .tc main_v12_2),
    V₁ m d (Proc.devRef .tc main_v12_3)⟩

/-- after it: its four results at the gathered rows, -/
def V₂ (d : Dev nD) : Valuation τ sig (Elt F) :=
  Function.update (Function.update (Function.update (Function.update (V₁ m d)
    (Proc.devRef .tc main_v12_0) (callIns m d).w0) (Proc.devRef .tc main_v12_1) (callIns m d).w1)
    (Proc.devRef .tc main_v12_2) (callIns m d).w2) (Proc.devRef .tc main_v12_3) (callIns m d).w3

/-- at the TensorCore call, -/
def V₃ (d : Dev nD) : Valuation τ sig (Elt F) := after hostB (V₂ m d)

/-- and at the end. -/
def V₄ (d : Dev nD) : Valuation τ sig (Elt F) := after hostC (leave (V₃ m) d)

/-! ## The call's arrays among all -/

/-- The call's arrays. -/
def callRef : Fin 12 → Ref sig .tc :=
  ![main_v10, main_v11, main_arg4, main_arg5, main_v1, main_v3, main_arg0, main_arg1, main_v12_0, main_v12_1, main_v12_2, main_v12_3]

theorem callRef_inj : Function.Injective callRef := by decide

def callRefs : Finset (DevRef τ sig) :=
  Finset.univ.map ⟨fun i => Proc.devRef .tc (callRef i), fun _ _ h => callRef_inj (Proc.devRef_injective _ h)⟩

theorem callRefs_sub : callRefs ⊆ Pipeline.ucRefs τ sig := fun b hb => by
  obtain ⟨i, -, rfl⟩ := Finset.mem_map.mp hb
  have h : ∀ i, (callRef i).isScoped = false := by decide
  exact Pipeline.devRef_mem_ucRefs (h i)

theorem held_call (d : Dev nD) (W : Valuation τ sig (Elt F)) :
    (held (T d : Thread nD τ) callRefs W : sProp 𝕄)
      = CallRes d (insOf W)
          (W (Proc.devRef .tc main_v12_0)) (W (Proc.devRef .tc main_v12_1)) (W (Proc.devRef .tc main_v12_2)) (W (Proc.devRef .tc main_v12_3)) := by
  unfold held callRefs
  rw [bigSep_map]
  exact bigSep_univ_eq_bigSepL [(0 : Fin 12), 1, 2, 3, 4, 5, 6, 7, 8, 9, 10, 11] (by decide) (by decide) _

theorem V₂_in (d : Dev nD) {r : Ref sig .tc} (h0 : r ≠ main_v12_0) (h1 : r ≠ main_v12_1) (h2 : r ≠ main_v12_2) (h3 : r ≠ main_v12_3) :
    V₂ m d (Proc.devRef .tc r) = V₁ m d (Proc.devRef .tc r) := by
  unfold V₂
  rw [Function.update_of_ne fun h => h3 (Proc.devRef_injective _ h), Function.update_of_ne fun h => h2 (Proc.devRef_injective _ h),
    Function.update_of_ne fun h => h1 (Proc.devRef_injective _ h), Function.update_of_ne fun h => h0 (Proc.devRef_injective _ h)]

theorem V₂_w3 (d : Dev nD) : V₂ m d (Proc.devRef .tc main_v12_3) = (callIns m d).w3 := by
  unfold V₂; exact Function.update_self (Proc.devRef (τ := τ) .tc main_v12_3) _ _

theorem V₂_w2 (d : Dev nD) : V₂ m d (Proc.devRef .tc main_v12_2) = (callIns m d).w2 := by
  unfold V₂; rw [Function.update_of_ne fun h => absurd (Proc.devRef_injective _ h) (by decide)]
  exact Function.update_self (Proc.devRef (τ := τ) .tc main_v12_2) _ _

theorem V₂_w1 (d : Dev nD) : V₂ m d (Proc.devRef .tc main_v12_1) = (callIns m d).w1 := by
  unfold V₂; rw [Function.update_of_ne fun h => absurd (Proc.devRef_injective _ h) (by decide), Function.update_of_ne fun h => absurd (Proc.devRef_injective _ h) (by decide)]
  exact Function.update_self (Proc.devRef (τ := τ) .tc main_v12_1) _ _

theorem V₂_w0 (d : Dev nD) : V₂ m d (Proc.devRef .tc main_v12_0) = (callIns m d).w0 := by
  unfold V₂; rw [Function.update_of_ne fun h => absurd (Proc.devRef_injective _ h) (by decide), Function.update_of_ne fun h => absurd (Proc.devRef_injective _ h) (by decide), Function.update_of_ne fun h => absurd (Proc.devRef_injective _ h) (by decide)]
  exact Function.update_self (Proc.devRef (τ := τ) .tc main_v12_0) _ _

theorem insOf_after (d : Dev nD) : insOf (V₂ m d) = callIns m d := by
  unfold callIns insOf
  rw [V₂_in m d (r := main_v10) (by decide) (by decide) (by decide) (by decide),
    V₂_in m d (r := main_v11) (by decide) (by decide) (by decide) (by decide),
    V₂_in m d (r := main_arg4) (by decide) (by decide) (by decide) (by decide),
    V₂_in m d (r := main_arg5) (by decide) (by decide) (by decide) (by decide),
    V₂_in m d (r := main_v1) (by decide) (by decide) (by decide) (by decide),
    V₂_in m d (r := main_v3) (by decide) (by decide) (by decide) (by decide),
    V₂_in m d (r := main_arg0) (by decide) (by decide) (by decide) (by decide),
    V₂_in m d (r := main_arg1) (by decide) (by decide) (by decide) (by decide)]

theorem st_eq (A : Dev nD → CallIn F) (d : Dev nD) : (CallRes d (A d).ins (A d).f₀ (A d).f₁ (A d).f₂ (A d).f₃ : sProp 𝕄)
    = bigSep Finset.univ fun c : Fin ((K (F := F)).nCore 0) => (P A).st 0 d c :=
  call_deal d (A d).ins _ _ _ _

theorem dn_eq (A : Dev nD → CallIn F) (d : Dev nD) : (CallRes d (A d).ins (A d).ins.w0 (A d).ins.w1 (A d).ins.w2 (A d).ins.w3 : sProp 𝕄)
    = bigSep Finset.univ fun c : Fin ((K (F := F)).nCore 0) => (P A).dn 0 d c :=
  call_deal d (A d).ins _ _ _ _

/-- The call's arrays before it, -/
theorem held_before (d : Dev nD) : (held (T d : Thread nD τ) callRefs (V₁ m d) : sProp 𝕄)
    = bigSep Finset.univ fun c : Fin ((K (F := F)).nCore 0) => (P (callIn m)).st 0 d c := by
  rw [held_call, ← st_eq]; unfold callIn callIns; rfl

/-- and after it. -/
theorem held_after (d : Dev nD) : (held (T d : Thread nD τ) callRefs (V₂ m d) : sProp 𝕄)
    = bigSep Finset.univ fun c : Fin ((K (F := F)).nCore 0) => (P (callIn m)).dn 0 d c := by
  rw [held_call, ← dn_eq, insOf_after, V₂_w0, V₂_w1, V₂_w2, V₂_w3]; unfold callIn; rfl

theorem held_rest (d : Dev nD) : (held (T d : Thread nD τ) (Pipeline.ucRefs τ sig \ callRefs) (V₂ m d) : sProp 𝕄)
    = held (T d : Thread nD τ) (Pipeline.ucRefs τ sig \ callRefs) (V₁ m d) := by
  refine held_congr _ fun b hb => ?_
  have hne : ∀ i : Fin 12, b ≠ Proc.devRef .tc (callRef i) := fun i e =>
    (Finset.mem_sdiff.mp hb).2 (Finset.mem_map.mpr ⟨i, Finset.mem_univ _, e.symm⟩)
  unfold V₂
  exact (Function.update_of_ne (hne 11) _ _).trans ((Function.update_of_ne (hne 10) _ _).trans
    ((Function.update_of_ne (hne 9) _ _).trans (Function.update_of_ne (hne 8) _ _)))

/-! ## The run -/

variable [∀ e, Nonempty (Elt F e)]

/-- @main on a device, from its arrays as launched to its arrays at `V₄`. -/
theorem hmain (κ : GSem nD τ sig → ℕ) (d : Dev nD) :
    iprop((K (F := F)).ctx EH (P (callIn m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ held (T d : Thread nD τ) (Pipeline.ucRefs τ sig) (V₄ m d) ∗ (K (F := F)).tcEnd d) := by
  unfold SparseCore.Cfg.tcRes SparseCore.Cfg.tcEnd
  rw [main_eq, show unscopedBufs d (fun b => m ((T d : Thread nD τ).loc b)) = (held (T d : Thread nD τ) (Pipeline.ucRefs τ sig) (fun b => m (d, b)) : sProp 𝕄)
    from Pipeline.unscopedBufs_held d (fun b => m (d, b))]
  iintro ⟨#Hctx, Hst, ⟨Hb, Hh, Hts, -⟩, HG⟩
  iapply (wp_seq 𝒱 none Set.univ d (Pipeline.ucRefs τ sig) _ hostA hostA_sub hostA_fresh (fun b => m (d, b))) $$ [Hb Hh]
  · isplitl [Hb]; · iexact Hb
    iexact Hh
  iintro ⟨Hb, Hh⟩
  ihave Hh := (show (held (T d : Thread nD τ) (Pipeline.ucRefs τ sig) (after hostA fun b => m (d, b)) : sProp 𝕄)
      ⊢ iprop((bigSep Finset.univ fun c : Fin ((K (F := F)).nCore 0) => (P (callIn m)).st 0 d c)
          ∗ held (T d : Thread nD τ) (Pipeline.ucRefs τ sig \ callRefs) (V₂ m d)) from Entails.of_eq (by
        rw [← held_before, held_rest]; exact held_sub_split _ callRefs_sub _)) $$ Hh
  icases Hh with ⟨Hc, Hr⟩
  simp only [wp_bind]
  iapply ((K (F := F)).wp_run (D (F := F)) 𝒱 (EH := EH) (P := P (callIn m)) κ d 0) $$ [Hst Hc Hr Hb Hts HG]
  isplitr; · iexact Hctx
  isplitl [Hst]; · iexact Hst
  isplitl [Hc]; · iexact Hc
  iintro ⟨Hst, Hdn⟩
  ihave Hh := (show iprop((bigSep Finset.univ fun c : Fin ((K (F := F)).nCore 0) => (P (callIn m)).dn 0 d c)
          ∗ held (T d : Thread nD τ) (Pipeline.ucRefs τ sig \ callRefs) (V₂ m d))
      ⊢ (held (T d : Thread nD τ) (Pipeline.ucRefs τ sig) (V₂ m d) : sProp 𝕄) from Entails.of_eq (by
        rw [← held_after]; exact (held_sub_split _ callRefs_sub _).symm)) $$ [Hdn Hr]
  · isplitl [Hdn]; · iexact Hdn
    iexact Hr
  rw [← wp_bind]
  iapply (wp_seq 𝒱 none Set.univ d (Pipeline.ucRefs τ sig) _ hostB hostB_sub hostB_fresh (V₂ m d)) $$ [Hb Hh]
  · isplitl [Hb]; · iexact Hb
    iexact Hh
  iintro ⟨Hb, Hh⟩
  iapply (tc_step (V₃ m) (callIn m) κ d _)
  isplitr; · iexact Hctx
  isplitl [Hst]; · iexact Hst
  isplitl [HG]; · iexact HG
  isplitl [Hb]; · iexact Hb
  isplitl [Hh]; · iexact Hh
  iintro ⟨Hst, Hb, Hh⟩
  rw [← wp_bind]
  iapply (wp_seq 𝒱 none Set.univ d (Pipeline.ucRefs τ sig) _ hostC hostC_sub hostC_fresh (leave (V₃ m) d)) $$ [Hb Hh]
  · isplitl [Hb]; · iexact Hb
    iexact Hh
  iintro ⟨Hb, Hh⟩
  rw [wp_pure]; imodintro
  isplitl [Hst]; · iexact Hst
  isplitl [Hh]; · iexact Hh
  isplitl [Hb] <;> iassumption

/-- What the end of the run says of the memory. -/
def fq (d : Dev nD) (s' : Phys nD τ sig (Elt F)) : Prop :=
  ∀ b ∈ Pipeline.ucRefs τ sig, s'.mem.mem (d, b) = V₄ m d b

theorem hfin (d : Dev nD) (s' : Phys nD τ sig (Elt F)) :
    iprop(held (T d : Thread nD τ) (Pipeline.ucRefs τ sig) (V₄ m d) ∗ SI s') ⊢ (⌜fq m d s'⌝ : sProp 𝕄) := by
  unfold held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h b hb

/-- Every array a device ends with, and the counters at zero. -/
def QC : PUnit × MemSt nD τ sig (Elt F) → Prop := fun r =>
  (∀ (d : Dev nD) (b : Ref sig .tc), b.isScoped = false → r.2.mem ((d.tc : Thread nD τ).loc b) = V₄ m d (Proc.devRef .tc b)) ∧ r.2.sem = fun _ => 0

theorem run_main (hA : ∀ d, (callIns m d).Ok) :
    θ_run (defs (F := F)) (threads (F := F)) ⟨m, fun _ => 0, ρ⟩ (QC m) :=
  SparseCore.Cfg.θ_run_sc_quiescent (K := K (F := F)) (D := D (F := F)) (𝒱 := 𝒱) (EH := EH) (P := P (callIn m)) (A := ∅) facts v₀
    (fun q hq => match q with | 0 => nomatch hq)
    (fun q _ => match q with | 0 => tileObl (callIn m) hA)
    (fun q _ => match q with | 0 => SparseCore.Cfg.VecSplit.of_plain (vecSplit (callIn m)))
    m ρ main (fun d => G d) (fun d => held (T d : Thread nD τ) (Pipeline.ucRefs τ sig) (V₄ m d)) (u₀ (F := F))
    (sep_elim_left.trans (hu₀ (callIn m))) (hmain m ρ) (fq m) (hfin m) (QC m)
    (fun _ h hz => ⟨fun d b hb => h d _ (Pipeline.devRef_mem_ucRefs hb), hz⟩)

end Cert.Proof

end
-- ==== Proof.Same.lean ====
/-
  THE TWO KERNELS' TEXT IS ONE: nothing was rewritten for the ideal reading, so the body tables of `Kernel` and `KernelIdeal`
  are one table, and a run of the one is a run of the other.
-/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

set_option maxHeartbeats 800000 in
/-- The kernels' bodies, label by label. -/
theorem bodies_same : Cert.Kernel.defs₀ (F := F) = Cert.KernelIdeal.defs₀ (F := F) := by
  funext p ℓ a
  match p, ℓ, a with
  | .scVector c s, 0, _ => rfl
  | .scVector c s, 1, _ => rfl
  | .tc, 1, (t, s) => rfl
  | .tc, 0, _ => rfl
  | .scScalar c, 0, _ => rfl
  | .scScalar c, 1, _ => rfl

/-- The whole table. -/
theorem defs_same : Cert.Kernel.defs (F := F) = Cert.KernelIdeal.defs (F := F) :=
  congrArg (fun x => (Cert.KernelIdeal.sc (F := F)).defs (Pipeline.defs Cert.KernelIdeal.pcfgs x)) bodies_same

set_option maxHeartbeats 800000 in
/-- A run of `KernelIdeal`'s text is a run of `Kernel`'s. -/
theorem run_same {s : MemSt Cert.KernelIdeal.nD Cert.KernelIdeal.τ Cert.KernelIdeal.sig (Elt F)}
    {Q : PUnit × MemSt Cert.KernelIdeal.nD Cert.KernelIdeal.τ Cert.KernelIdeal.sig (Elt F) → Prop}
    (h : θ_run (Cert.KernelIdeal.defs (F := F)) (Cert.KernelIdeal.threads (F := F)) s Q) :
    θ_run (Cert.Kernel.defs (F := F)) (Cert.Kernel.threads (F := F)) s Q := by
  rw [defs_same]
  exact h

end Cert.Proof

end
-- ==== Proof.Frames.lean ====
/-
  THE ARGUMENTS AND THE ROW NUMBERS: no stretch of @main writes an argument; the call's row numbers, read off the launch
  memory, are rows of its tables where the precondition holds; the two frames.
-/
module

public import proofs.«01_k».proof.Proof.Main
public import proofs.«01_k».proof.Defs
public import proofs.«01_k».proof.Proof.Same
public import proofs.«01_k».proof.Proof.Gen.Pre_ids_in_tables
public import Idealize.ShloMosaic.Lib.ReduceAll
public import Idealize.ShloMosaic.Lib.Affine
public import Idealize.ShloMosaic.Lib.Claim

@[expose] public section

noncomputable section

namespace Cert.Proof

open Cert.KernelIdeal Cert.KernelIdeal.Gen

open Idealize.ShloMosaic Idealize.ShloMosaic.TcCoe
open Idealize.ShloMosaic.StableHlo
open Idealize.SL.Sem

variable {F : FTy → Type} [FloatOps F]

variable (m : (ℓ : Loc nD τ sig) → Buf (Elt F) ℓ)

/-! ## What no stretch writes -/

/-- An array none of the stretches and calls writes ends as it started. -/
theorem V₄_keeps (d : Dev nD) {r : Ref sig .tc} (hA : r ∉ hostAW) (hB : r ∉ hostBW) (hC : r ∉ hostCW)
    (h : r ≠ main_v22 ∧ r ≠ main_v12_0 ∧ r ≠ main_v12_1 ∧ r ≠ main_v12_2 ∧ r ≠ main_v12_3) :
    V₄ m d (Proc.devRef .tc r) = m ((d.tc : Thread nD τ).loc r) := by
  unfold V₄
  rw [hostC_keeps _ hC]
  unfold leave
  refine (Function.update_of_ne (fun e => h.1 (Proc.devRef_injective .tc e)) _ _).trans ?_
  unfold V₃
  rw [hostB_keeps _ hB, V₂_in m d h.2.1 h.2.2.1 h.2.2.2.1 h.2.2.2.2]
  unfold V₁
  exact hostA_keeps _ hA

/-! ## The row numbers -/

/-- A launch memory whose numbers, as words, are rows of the tables. -/
def IdsOk (u v : (⟨S16384, .i32⟩ : BufTy).Contents (Elt F)) : Prop := ∀ y, BitVec.toNat (u y) < 100000 ∧ BitVec.toNat (v y) < 100000

theorem V₁_v1 (d : Dev nD) : V₁ m d (Proc.devRef .tc main_v1)
    = (Host.shrui (m ((d.tc : Thread nD τ).loc main_arg0)) (broadcastInDim S16384 ![] bcast_S_S16384 (constantI S_ 32 1#32)) : (⟨S16384, .i32⟩ : BufTy).Contents (Elt F)) := by
  unfold V₁ hostA
  after_results_simp <;> rfl

theorem V₁_v3 (d : Dev nD) : V₁ m d (Proc.devRef .tc main_v3)
    = (Host.shrui (m ((d.tc : Thread nD τ).loc main_arg1)) (broadcastInDim S16384 ![] bcast_S_S16384 (constantI S_ 32 1#32)) : (⟨S16384, .i32⟩ : BufTy).Contents (Elt F)) := by
  unfold V₁ hostA
  after_results_simp <;> rfl

/-- Half a row number, as a natural. -/
theorem toNat_half (u : (⟨S16384, .i32⟩ : BufTy).Contents (Elt F)) (y : S16384.Idx) :
    BitVec.toNat ((Host.shrui u (broadcastInDim S16384 ![] bcast_S_S16384 (constantI S_ 32 1#32)) : (⟨S16384, .i32⟩ : BufTy).Contents (Elt F)) y)
      = BitVec.toNat (u y) / 2 := by
  have e : (1#32 : BitVec 32) = BitVec.ofNat 32 1 := rfl
  show BitVec.toNat (IntOp.shrui .host (u y) 1#32) = _
  simp [IntOp.shrui, BitVec.toNat_ushiftRight, Nat.shiftRight_eq_div_pow]

theorem ins_ok (h : ∀ d : Dev nD, IdsOk (F := F) (m ((d.tc : Thread nD τ).loc main_arg0)) (m ((d.tc : Thread nD τ).loc main_arg1))) (d : Dev nD) :
    (callIns m d).Ok := by
  have e0 : (callIns m d).x2 = m ((d.tc : Thread nD τ).loc main_arg0) := hostA_keeps (r := main_arg0) (fun b => m (d, b)) (by decide)
  have e1 : (callIns m d).x3 = m ((d.tc : Thread nD τ).loc main_arg1) := hostA_keeps (r := main_arg1) (fun b => m (d, b)) (by decide)
  have e2 : (callIns m d).x0 = _ := V₁_v1 m d
  have e3 : (callIns m d).x1 = _ := V₁_v3 m d
  unfold Ins.Ok
  rw [e0, e1, e2, e3]
  refine ⟨fun y => ?_, fun y => ?_, fun y => (h d y).1, fun y => (h d y).2⟩
  · rw [toNat_half]; have := (h d y).1; omega
  · rw [toNat_half]; have := (h d y).2; omega

/-- The precondition, read at every place. -/
theorem ids_of_pre [Cert.Pre_ids_in_tables.Facts] {u v : (⟨S16384, .i32⟩ : BufTy).Contents (Elt F)} {a2 a3 a4 a5 a6 a7 a8 a9 a10 a11}
    (h : Cert.Pre_ids_in_tables.fn (F := F) u v a2 a3 a4 a5 a6 a7 a8 a9 a10 a11 = fun _ => 1#1) : IdsOk (F := F) u v := by
  have e := congrFun h ix0
  dsimp only [Cert.Pre_ids_in_tables.fn, andi] at e
  obtain ⟨e, h4⟩ := IntOp.andi_eq_one.1 e
  obtain ⟨e, h3⟩ := IntOp.andi_eq_one.1 e
  obtain ⟨h1, h2⟩ := IntOp.andi_eq_one.1 e
  have key : ∀ w : BitVec 32, IntOp.cmpi .sge w 0#32 = 1#1 → IntOp.cmpi .slt w 100000#32 = 1#1 → w.toNat < 100000 := by
    intro w ha hb
    have ha := IntOp.cmpi_sge.1 ha
    have hb := IntOp.cmpi_slt.1 hb
    have z0 : (0#32).toInt = 0 := by decide
    have z1 : (100000#32).toInt = 100000 := by decide
    rw [z0, BitVec.toInt_eq_toNat_cond] at ha
    rw [z1, BitVec.toInt_eq_toNat_cond] at hb
    split at ha <;> split at hb <;> omega
  exact fun y => ⟨key _ (Host.reduce_andi_all _ _ _ _ _ h1 y) (Host.reduce_andi_all _ _ _ _ _ h2 y),
    key _ (Host.reduce_andi_all _ _ _ _ _ h3 y) (Host.reduce_andi_all _ _ _ _ _ h4 y)⟩

/-! ## The frames -/

/-- The run, at what a certificate reads of it: the arguments as they started, the result, the counters at zero. -/
theorem run_args (ρ : Dev nD → PrngReg) [∀ e, Nonempty (Elt F e)]
    (h : ∀ d : Dev nD, IdsOk (F := F) (m ((d.tc : Thread nD τ).loc main_arg0)) (m ((d.tc : Thread nD τ).loc main_arg1))) :
    θ_run (defs (F := F)) (threads (F := F)) ⟨m, fun _ => 0, ρ⟩ fun r => (∀ d : Dev nD,
      r.2.mem ((d.tc : Thread nD τ).loc main_v23) = V₄ m d (Proc.devRef .tc main_v23)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)) ∧ r.2.sem = fun _ => 0 :=
  (θ_run _ _ _).mono (fun r hr => ⟨fun d => ⟨hr.1 d main_v23 rfl,
    (hr.1 d main_arg0 rfl).trans (V₄_keeps m d (by decide) (by decide) (by decide) (by decide)),
    (hr.1 d main_arg1 rfl).trans (V₄_keeps m d (by decide) (by decide) (by decide) (by decide)),
    (hr.1 d main_arg2 rfl).trans (V₄_keeps m d (by decide) (by decide) (by decide) (by decide)),
    (hr.1 d main_arg3 rfl).trans (V₄_keeps m d (by decide) (by decide) (by decide) (by decide)),
    (hr.1 d main_arg4 rfl).trans (V₄_keeps m d (by decide) (by decide) (by decide) (by decide)),
    (hr.1 d main_arg5 rfl).trans (V₄_keeps m d (by decide) (by decide) (by decide) (by decide)),
    (hr.1 d main_arg6 rfl).trans (V₄_keeps m d (by decide) (by decide) (by decide) (by decide)),
    (hr.1 d main_arg7 rfl).trans (V₄_keeps m d (by decide) (by decide) (by decide) (by decide)),
    (hr.1 d main_arg8 rfl).trans (V₄_keeps m d (by decide) (by decide) (by decide) (by decide)),
    (hr.1 d main_arg9 rfl).trans (V₄_keeps m d (by decide) (by decide) (by decide) (by decide)),
    (hr.1 d main_arg10 rfl).trans (V₄_keeps m d (by decide) (by decide) (by decide) (by decide)),
    (hr.1 d main_arg11 rfl).trans (V₄_keeps m d (by decide) (by decide) (by decide) (by decide))⟩, hr.2⟩) (run_main m ρ (ins_ok m h))

theorem frame_kernelIdeal : Cert.quiescent_KernelIdeal := fun m ρ hpre =>
  (θ_run _ _ _).mono (fun r h => ⟨fun c => (h.1 c).2, h.2⟩) (run_args (F := Ideal) m ρ fun d => ids_of_pre (hpre d))

theorem frame_kernel : Cert.quiescent_Kernel := fun m ρ hpre =>
  run_same ((θ_run (Cert.KernelIdeal.defs (F := Bits)) (Cert.KernelIdeal.threads (F := Bits)) ⟨m, fun _ => 0, ρ⟩).mono
    (fun r h => ⟨fun c => (h.1 c).2, h.2⟩) (run_args (F := Bits) m ρ fun d => ids_of_pre (hpre d)))

end Cert.Proof

end
-- ==== Proof.Equation.lean ====
/-
  THE EQUATION: one row of the result, read down to scalars on both sides.

  `score` is a row's value from its gathered rows and the weights. The kernel's block payload is it at a row of the block
  (`head_apply`), the reference's term at a row of the result (`refOf_apply`), from the rows its takes read (`take64_apply`,
  `take128_apply`).
-/
module

public import proofs.«01_k».proof.Proof.Frames
public import proofs.«01_k».proof.Proof.Gen.ReferenceIdeal.Run
public import Idealize.ShloMosaic.Lib.Pointwise
public import Idealize.ShloMosaic.Lib.IdealHost

@[expose] public section

noncomputable section

namespace Cert.Proof

open Idealize.ShloMosaic Idealize.ShloMosaic.TcCoe
open Idealize.SL.Sem

/-- A row's value: the weighted products of the two factor rows, the weighted second layer, the bias, the logistic. -/
def score (a b : Fin 64 → EReal) (u v : Fin 128 → EReal) (A B : Fin 128 → Fin 128 → EReal) (b1 : Fin 128 → EReal) (W : Fin 128 → Fin 64 → EReal)
    (b2 : Fin 64 → EReal) (p q : Fin 64 → EReal) (bp : EReal) : EReal :=
  Ideal.logistic ((∑ x, a x * b x * p x)
    + (∑ x, max ((∑ y, max ((∑ z, u z * A z y) + (∑ z, v z * B z y) + b1 y) 0 * W y x) + b2 x) 0 * q x) + bp)

section Kernel

open Cert.KernelIdeal Cert.KernelIdeal.Gen

/-- The half of a row of 128 that a bit names: its first 64 at 0, its last 64 otherwise. -/
def half (w : BitVec 32) (x : Fin 128 → EReal) (k : Fin 64) : EReal :=
  Scalar.select (IntOp.cmpi .eq w 0#32) (x ⟨k.val, by omega⟩) (x ⟨64 + k.val, by omega⟩)

set_option maxRecDepth 16384 in
theorem head_apply (x0 x1 x2 x3 : Vec Ideal S2048x128 .f32) (x4 x5 : Vec Ideal S2048x1 .i32) (x6 x7 : Vec Ideal S128x128 .f32)
    (x8 : Vec Ideal S1x128 .f32) (x9 : Vec Ideal S128x64 .f32) (x10 x11 x12 : Vec Ideal S1x64 .f32) (x13 : Vec Ideal S1x1 .f32) (p : Fin 2048) :
    head x0 x1 x2 x3 x4 x5 x6 x7 x8 x9 x10 x11 x12 x13 (ix2 p 0)
      = score (half (x4 (ix2 p 0)) fun k => x0 (ix2 p k)) (half (x5 (ix2 p 0)) fun k => x1 (ix2 p k)) (fun k => x2 (ix2 p k)) (fun k => x3 (ix2 p k))
          (fun z y => x6 (ix2 z y)) (fun z y => x7 (ix2 z y)) (fun y => x8 (ix2 0 y)) (fun y x => x9 (ix2 y x)) (fun x => x10 (ix2 0 x))
          (fun x => x11 (ix2 0 x)) (fun x => x12 (ix2 0 x)) (x13 (ix2 0 0)) := by
  pointwise [head, k1_pay1, k1_pay2, k1_pay3, k1_pay4, k1_pay5]
  rfl

end Kernel

section Reference

open Cert.ReferenceIdeal Cert.ReferenceIdeal.Gen

/-- A take's row numbers: a negative number counts from the end. -/
def wrapped (i : IVec S16384 32) : IVec S16384x1 32 :=
  broadcastInDim S16384x1 ![0] bcast_S16384_S16384x1_0 (select (cmpi .slt i (broadcastInDim S16384 ![] bcast_S_S16384 (constantI S_ 32 0#32))) (addi i (broadcastInDim S16384 ![] bcast_S_S16384 (constantI S_ 32 100000#32))) i)

/-- Which of them are rows. -/
def inside (i : IVec S16384 32) : IVec S16384 1 :=
  Host.reduce IntOp.andi (andi (cmpi .sge (wrapped i) (broadcastInDim S16384x1 ![] bcast_S_S16384x1 (constantI S_ 32 0#32))) (cmpi .sle (wrapped i) (broadcastInDim S16384x1 ![0, 1] bcast_S1x1_S16384x1_0_1 (broadcastInDim S1x1 ![1] bcast_S1_S1x1_1 (constantI S1 32 99999#32))))) (constantI S_ 1 1#1) reducesTo_S16384x1_S16384_d1 h_S_

/-- The take from a table of 64 columns, -/
def take64 (t : FVec Ideal S100000x64 .f32) (i : IVec S16384 32) : FVec Ideal S16384x64 .f32 :=
  select (broadcastInDim S16384x64 ![0] bcast_S16384_S16384x64_0 (inside i)) (Host.gather gather_S100000x64_S16384x1_S16384x64_1_0_n_n_0_1_164 t (wrapped i)) (broadcastInDim S16384x64 ![] bcast_S_S16384x64 (constant S_ .f32 0x7FC00000#32))

/-- and from a table of 128. -/
def take128 (t : FVec Ideal S100000x128 .f32) (i : IVec S16384 32) : FVec Ideal S16384x128 .f32 :=
  select (broadcastInDim S16384x128 ![0] bcast_S16384_S16384x128_0 (inside i)) (Host.gather gather_S100000x128_S16384x1_S16384x128_1_0_n_n_0_1_1128 t (wrapped i)) (broadcastInDim S16384x128 ![] bcast_S_S16384x128 (constant S_ .f32 0x7FC00000#32))

/-- The reference's result from what its takes read and its weights. -/
def refOf (a b : FVec Ideal S16384x64 .f32) (u v : FVec Ideal S16384x128 .f32) (W1 : FVec Ideal S256x128 .f32) (b1 : FVec Ideal S128 .f32)
    (W2 : FVec Ideal S128x64 .f32) (b2 : FVec Ideal S64 .f32) (Wp : FVec Ideal S128x1 .f32) (bp : FVec Ideal S1 .f32) : FVec Ideal S16384 .f32 :=
  shapeCast _ (Host.divf (broadcastInDim S16384x1 ![] bcast_S_S16384x1 (constant S_ .f32 0x3F800000#32)) (addf (broadcastInDim S16384x1 ![] bcast_S_S16384x1 (constant S_ .f32 0x3F800000#32)) (Host.exp (Host.negf (addf (Host.dotGeneral dot_S16384x128_S128x1_S16384x1_1_0_0_1_n_n none (concatenate S16384x128 1 [⟨S16384x64, mulf a b⟩,
    ⟨S16384x64, (maximumf (addf (Host.dotGeneral dot_S16384x128_S128x64_S16384x64_1_0_0_1_n_n none (maximumf (addf (Host.dotGeneral dot_S16384x256_S256x128_S16384x128_1_0_0_1_n_n none (concatenate S16384x256 1 [⟨S16384x128, u⟩, ⟨S16384x128, v⟩] concatenates_S16384x128_S16384x128_S16384x256_d1) W1) (broadcastInDim S16384x128 ![0, 1] bcast_S1x128_S16384x128_0_1 (broadcastInDim S1x128 ![1] bcast_S128_S1x128_1 b1))) (broadcastInDim S16384x128 ![] bcast_S_S16384x128 (constant S_ .f32 0x00000000#32))) W2) (broadcastInDim S16384x64 ![0, 1] bcast_S1x64_S16384x64_0_1 (broadcastInDim S1x64 ![1] bcast_S64_S1x64_1 b2))) (broadcastInDim S16384x64 ![] bcast_S_S16384x64 (constant S_ .f32 0x00000000#32)))⟩] concatenates_S16384x64_S16384x64_S16384x128_d1) Wp) (broadcastInDim S16384x1 ![0, 1] bcast_S1x1_S16384x1_0_1 (broadcastInDim S1x1 ![1] bcast_S1_S1x1_1 bp))))))) shapeCasts_S16384x1_S16384

theorem result_eq (m : (ℓ : Loc nD τ sig) → Buf (Elt Ideal) ℓ) (c : Dev nD) : Value.res_out0 (F := Ideal) m c
    = refOf (take64 (m ((c.tc : Thread nD τ).loc main_arg2)) (m ((c.tc : Thread nD τ).loc main_arg0))) (take64 (m ((c.tc : Thread nD τ).loc main_arg3)) (m ((c.tc : Thread nD τ).loc main_arg1)))
        (take128 (m ((c.tc : Thread nD τ).loc main_arg4)) (m ((c.tc : Thread nD τ).loc main_arg0))) (take128 (m ((c.tc : Thread nD τ).loc main_arg5)) (m ((c.tc : Thread nD τ).loc main_arg1)))
        (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) := rfl

set_option maxRecDepth 16384 in
theorem refOf_apply (a b : FVec Ideal S16384x64 .f32) (u v : FVec Ideal S16384x128 .f32) (W1 : FVec Ideal S256x128 .f32) (b1 : FVec Ideal S128 .f32)
    (W2 : FVec Ideal S128x64 .f32) (b2 : FVec Ideal S64 .f32) (Wp : FVec Ideal S128x1 .f32) (bp : FVec Ideal S1 .f32) (r : Fin 16384) :
    refOf a b u v W1 b1 W2 b2 Wp bp (ix1 r)
      = score (fun k => a (ix2 r k)) (fun k => b (ix2 r k)) (fun k => u (ix2 r k)) (fun k => v (ix2 r k))
          (fun z y => W1 (ix2 ⟨z.val, by omega⟩ y)) (fun z y => W1 (ix2 ⟨128 + z.val, by omega⟩ y)) (fun y => b1 (ix1 y)) (fun y x => W2 (ix2 y x)) (fun x => b2 (ix1 x))
          (fun x => Wp (ix2 ⟨x.val, by omega⟩ 0)) (fun x => Wp (ix2 ⟨64 + x.val, by omega⟩ 0)) (bp (ix1 0)) := by
  pointwise [refOf]
  rfl

theorem wrapped_apply (i : IVec S16384 32) (r : Fin 16384) (h : (i (ix1 r)).toNat < 100000) : wrapped i (ix2 r 0) = i (ix1 r) := by
  pointwise [wrapped]
  have hs : IntOp.cmpi .slt (i (ix1 r)) 0#32 ≠ 1#1 := fun e => by
    have := IntOp.cmpi_slt.mp e
    rw [BitVec.toInt_eq_toNat_of_lt (by omega)] at this
    simp at this
    omega
  exact if_neg hs

theorem inside_apply (i : IVec S16384 32) (h : ∀ y, (i y).toNat < 100000) (j : S16384.Idx) : inside i j = 1#1 := by
  refine Host.reduce_andi_one _ _ _ _ _ rfl fun y => ?_
  obtain ⟨r, q, rfl⟩ : ∃ (r : Fin 16384) (q : Fin 1), y = ix2 r q := ⟨y 0, y 1, funext fun a => match a with | ⟨0, _⟩ => rfl | ⟨1, _⟩ => rfl⟩
  obtain rfl : q = 0 := Subsingleton.elim _ _
  have hr := h (ix1 r)
  have hw : (wrapped i (ix2 r 0)).toInt = (i (ix1 r)).toNat := by
    rw [wrapped_apply i r (h _), BitVec.toInt_eq_toNat_of_lt (by omega)]
  refine IntOp.andi_eq_one.mpr ⟨IntOp.cmpi_sge.mpr ?_, IntOp.cmpi_sle.mpr ?_⟩
  · show (0 : Int) ≤ (wrapped i (ix2 r 0)).toInt
    rw [hw]
    omega
  · show (wrapped i (ix2 r 0)).toInt ≤ (99999 : Int)
    rw [hw]
    omega

/-- The dimension numbers of a gather of whole rows of `C`. -/
abbrev rowDims (C : Nat) (wf : GatherDims.WF ⟨2, ![100000, C]⟩ S16384x1 ⟨2, ![16384, C]⟩ [1] [0] [] [0] [] 1 ![1, C]) :
    GatherDims ⟨2, ![100000, C]⟩ S16384x1 ⟨2, ![16384, C]⟩ where
  offsetDims := [1]
  collapsedSliceDims := [0]
  operandBatchingDims := []
  startIndicesBatchingDims := []
  startIndexMap := [0]
  indexVectorDim := 1
  sliceSizes := ![1, C]
  wf := wf

/-- A gather of whole rows at a row number in range is that row. -/
theorem gather_row {C : Nat} (wf : GatherDims.WF ⟨2, ![100000, C]⟩ S16384x1 ⟨2, ![16384, C]⟩ [1] [0] [] [0] [] 1 ![1, C])
    (t : (⟨2, ![100000, C]⟩ : Shape).Idx → EReal) (I : IVec S16384x1 32) (r : Fin 16384) (k : Fin C) (h : (I (ix2 r 0)).toNat < 100000) :
    Host.gather (rowDims C wf) t I (ix2 r k) = t (ix2 ⟨(I (ix2 r 0)).toNat, h⟩ k) := by
  refine congrArg t (funext fun a => Fin.ext ?_)
  match a with
  | ⟨0, _⟩ =>
    have hs : (rowDims C wf).siIdx (ix2 r k) ⟨0, Nat.one_pos⟩ = (ix2 r 0 : S16384x1.Idx) :=
      funext fun b => match b with | ⟨0, _⟩ => rfl | ⟨1, _⟩ => rfl
    show min (I ((rowDims C wf).siIdx (ix2 r k) ⟨0, Nat.one_pos⟩)).toInt.toNat 99999 + 0 + 0 = (I (ix2 r 0)).toNat
    rw [hs, BitVec.toInt_eq_toNat_of_lt (by omega)]
    omega
  | ⟨1, _⟩ => show 0 + 0 + k.val = k.val; omega

set_option maxRecDepth 16384 in
/-- A take at row numbers in range reads the row the number names. -/
theorem take64_apply (t : FVec Ideal S100000x64 .f32) (i : IVec S16384 32) (h : ∀ y, (i y).toNat < 100000) (r : Fin 16384) (k : Fin 64) :
    take64 t i (ix2 r k) = t (ix2 ⟨(i (ix1 r)).toNat, h _⟩ k) := by
  have e := wrapped_apply i r (h _)
  have hi : broadcastInDim S16384x64 ![0] bcast_S16384_S16384x64_0 (inside i) (ix2 r k) = 1#1 := inside_apply i h _
  unfold take64
  rw [ValueIdx.select_apply, hi, ValueIdx.select_one]
  refine (gather_row gather_S100000x64_S16384x1_S16384x64_1_0_n_n_0_1_164_wf t (wrapped i) r k (e ▸ h _)).trans ?_
  simp only [e]

set_option maxRecDepth 16384 in
theorem take128_apply (t : FVec Ideal S100000x128 .f32) (i : IVec S16384 32) (h : ∀ y, (i y).toNat < 100000) (r : Fin 16384) (k : Fin 128) :
    take128 t i (ix2 r k) = t (ix2 ⟨(i (ix1 r)).toNat, h _⟩ k) := by
  have e := wrapped_apply i r (h _)
  have hi : broadcastInDim S16384x128 ![0] bcast_S16384_S16384x128_0 (inside i) (ix2 r k) = 1#1 := inside_apply i h _
  unfold take128
  rw [ValueIdx.select_apply, hi, ValueIdx.select_one]
  refine (gather_row gather_S100000x128_S16384x1_S16384x128_1_0_n_n_0_1_1128_wf t (wrapped i) r k (e ▸ h _)).trans ?_
  simp only [e]

/-- The score of the argument rows that row `r`'s two numbers name. -/
def rowScore (u v : IVec S16384 32) (a2 a3 : FVec Ideal S100000x64 .f32) (a4 a5 : FVec Ideal S100000x128 .f32) (W1 : FVec Ideal S256x128 .f32)
    (b1 : FVec Ideal S128 .f32) (W2 : FVec Ideal S128x64 .f32) (b2 : FVec Ideal S64 .f32) (Wp : FVec Ideal S128x1 .f32) (bp : FVec Ideal S1 .f32)
    (r : Fin 16384) (hu : (u (ix1 r)).toNat < 100000) (hv : (v (ix1 r)).toNat < 100000) : EReal :=
  score (fun k => a2 (ix2 ⟨(u (ix1 r)).toNat, hu⟩ k)) (fun k => a3 (ix2 ⟨(v (ix1 r)).toNat, hv⟩ k))
    (fun k => a4 (ix2 ⟨(u (ix1 r)).toNat, hu⟩ k)) (fun k => a5 (ix2 ⟨(v (ix1 r)).toNat, hv⟩ k))
    (fun z y => W1 (ix2 ⟨z.val, by omega⟩ y)) (fun z y => W1 (ix2 ⟨128 + z.val, by omega⟩ y)) (fun y => b1 (ix1 y)) (fun y x => W2 (ix2 y x)) (fun x => b2 (ix1 x))
    (fun x => Wp (ix2 ⟨x.val, by omega⟩ 0)) (fun x => Wp (ix2 ⟨64 + x.val, by omega⟩ 0)) (bp (ix1 0))

/-- A row of the reference's result, its row numbers in range. -/
theorem result_apply (m : (ℓ : Loc nD τ sig) → Buf (Elt Ideal) ℓ) (c : Dev nD)
    (hu : ∀ y, BitVec.toNat ((m ((c.tc : Thread nD τ).loc main_arg0) : IVec S16384 32) y) < 100000)
    (hv : ∀ y, BitVec.toNat ((m ((c.tc : Thread nD τ).loc main_arg1) : IVec S16384 32) y) < 100000) (r : Fin 16384) :
    Value.res_out0 (F := Ideal) m c (ix1 r)
      = rowScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
          r (hu _) (hv _) := by
  rw [result_eq, refOf_apply]
  unfold rowScore
  simp only [take64_apply _ _ hu, take64_apply _ _ hv, take128_apply _ _ hu, take128_apply _ _ hv]

end Reference

end Cert.Proof

end
-- ==== Proof.Values.lean ====
/-
  THE KERNEL'S RESULT, ROW BY ROW: the blocks of the TensorCore call read off its arrays, its arrays read off the arguments,
  and a row of the result as the score of the argument rows its two numbers name (`V₄_apply`).
-/
module

public import proofs.«01_k».proof.Proof.Equation

@[expose] public section

noncomputable section

namespace Cert.Proof

open Cert.KernelIdeal Cert.KernelIdeal.Gen

open Idealize.ShloMosaic Idealize.ShloMosaic.TcCoe
open Idealize.ShloMosaic.StableHlo
open Idealize.SL.Sem

/-! ## The blocks -/

section Blocks

variable {F : FTy → Type} [FloatOps F] (V : Dev nD → Valuation τ sig (Elt F))

theorem index0 : ∀ t : Fin grid1.N, win1_0.index t = ![t.val, 0] := by decide +kernel

theorem blk0_apply (d : Dev nD) (t : Fin cfg1.N) (p : Fin 2048) (k : Fin 128) (r : Fin 16384) (hr : r.val = t.val * 2048 + p.val) :
    blk0 V d t (ix2 p k) = V d (Proc.devRef .tc main_v12_0) (ix2 r k) := by
  refine congrArg (V d (Proc.devRef .tc main_v12_0)) (funext fun a => Fin.ext ?_)
  match a with
  | ⟨0, _⟩ =>
    show ((win1_0.blk t).view.emb (ix2 p k) 0 : ℕ) = r.val
    blk_simp [index0]
    omega
  | ⟨1, _⟩ =>
    show ((win1_0.blk t).view.emb (ix2 p k) 1 : ℕ) = k.val
    blk_simp [index0]

theorem index1 : ∀ t : Fin grid1.N, win1_1.index t = ![t.val, 0] := by decide +kernel

theorem blk1_apply (d : Dev nD) (t : Fin cfg1.N) (p : Fin 2048) (k : Fin 128) (r : Fin 16384) (hr : r.val = t.val * 2048 + p.val) :
    blk1 V d t (ix2 p k) = V d (Proc.devRef .tc main_v12_1) (ix2 r k) := by
  refine congrArg (V d (Proc.devRef .tc main_v12_1)) (funext fun a => Fin.ext ?_)
  match a with
  | ⟨0, _⟩ =>
    show ((win1_1.blk t).view.emb (ix2 p k) 0 : ℕ) = r.val
    blk_simp [index1]
    omega
  | ⟨1, _⟩ =>
    show ((win1_1.blk t).view.emb (ix2 p k) 1 : ℕ) = k.val
    blk_simp [index1]

theorem index2 : ∀ t : Fin grid1.N, win1_2.index t = ![t.val, 0] := by decide +kernel

theorem blk2_apply (d : Dev nD) (t : Fin cfg1.N) (p : Fin 2048) (k : Fin 128) (r : Fin 16384) (hr : r.val = t.val * 2048 + p.val) :
    blk2 V d t (ix2 p k) = V d (Proc.devRef .tc main_v12_2) (ix2 r k) := by
  refine congrArg (V d (Proc.devRef .tc main_v12_2)) (funext fun a => Fin.ext ?_)
  match a with
  | ⟨0, _⟩ =>
    show ((win1_2.blk t).view.emb (ix2 p k) 0 : ℕ) = r.val
    blk_simp [index2]
    omega
  | ⟨1, _⟩ =>
    show ((win1_2.blk t).view.emb (ix2 p k) 1 : ℕ) = k.val
    blk_simp [index2]

theorem index3 : ∀ t : Fin grid1.N, win1_3.index t = ![t.val, 0] := by decide +kernel

theorem blk3_apply (d : Dev nD) (t : Fin cfg1.N) (p : Fin 2048) (k : Fin 128) (r : Fin 16384) (hr : r.val = t.val * 2048 + p.val) :
    blk3 V d t (ix2 p k) = V d (Proc.devRef .tc main_v12_3) (ix2 r k) := by
  refine congrArg (V d (Proc.devRef .tc main_v12_3)) (funext fun a => Fin.ext ?_)
  match a with
  | ⟨0, _⟩ =>
    show ((win1_3.blk t).view.emb (ix2 p k) 0 : ℕ) = r.val
    blk_simp [index3]
    omega
  | ⟨1, _⟩ =>
    show ((win1_3.blk t).view.emb (ix2 p k) 1 : ℕ) = k.val
    blk_simp [index3]

theorem index4 : ∀ t : Fin grid1.N, win1_4.index t = ![t.val, 0] := by decide +kernel

theorem blk4_apply (d : Dev nD) (t : Fin cfg1.N) (p : Fin 2048) (k : Fin 1) (r : Fin 16384) (hr : r.val = t.val * 2048 + p.val) :
    blk4 V d t (ix2 p k) = V d (Proc.devRef .tc main_v6) (ix2 r k) := by
  refine congrArg (V d (Proc.devRef .tc main_v6)) (funext fun a => Fin.ext ?_)
  match a with
  | ⟨0, _⟩ =>
    show ((win1_4.blk t).view.emb (ix2 p k) 0 : ℕ) = r.val
    blk_simp [index4]
    omega
  | ⟨1, _⟩ =>
    show ((win1_4.blk t).view.emb (ix2 p k) 1 : ℕ) = k.val
    blk_simp [index4]

theorem index5 : ∀ t : Fin grid1.N, win1_5.index t = ![t.val, 0] := by decide +kernel

theorem blk5_apply (d : Dev nD) (t : Fin cfg1.N) (p : Fin 2048) (k : Fin 1) (r : Fin 16384) (hr : r.val = t.val * 2048 + p.val) :
    blk5 V d t (ix2 p k) = V d (Proc.devRef .tc main_v9) (ix2 r k) := by
  refine congrArg (V d (Proc.devRef .tc main_v9)) (funext fun a => Fin.ext ?_)
  match a with
  | ⟨0, _⟩ =>
    show ((win1_5.blk t).view.emb (ix2 p k) 0 : ℕ) = r.val
    blk_simp [index5]
    omega
  | ⟨1, _⟩ =>
    show ((win1_5.blk t).view.emb (ix2 p k) 1 : ℕ) = k.val
    blk_simp [index5]

theorem index6 : ∀ t : Fin grid1.N, win1_6.index t = ![0, 0] := by decide +kernel

theorem blk6_eq (d : Dev nD) (t : Fin cfg1.N) : blk6 V d t = V d (Proc.devRef .tc main_v13) := by
  refine funext fun y => congrArg (V d (Proc.devRef .tc main_v13)) (funext fun a => Fin.ext ?_)
  match a with
  | ⟨0, _⟩ =>
    show ((win1_6.blk t).view.emb y 0 : ℕ) = (y 0).val
    blk_simp [index6]
  | ⟨1, _⟩ =>
    show ((win1_6.blk t).view.emb y 1 : ℕ) = (y 1).val
    blk_simp [index6]

theorem index7 : ∀ t : Fin grid1.N, win1_7.index t = ![0, 0] := by decide +kernel

theorem blk7_eq (d : Dev nD) (t : Fin cfg1.N) : blk7 V d t = V d (Proc.devRef .tc main_v14) := by
  refine funext fun y => congrArg (V d (Proc.devRef .tc main_v14)) (funext fun a => Fin.ext ?_)
  match a with
  | ⟨0, _⟩ =>
    show ((win1_7.blk t).view.emb y 0 : ℕ) = (y 0).val
    blk_simp [index7]
  | ⟨1, _⟩ =>
    show ((win1_7.blk t).view.emb y 1 : ℕ) = (y 1).val
    blk_simp [index7]

theorem index8 : ∀ t : Fin grid1.N, win1_8.index t = ![0, 0] := by decide +kernel

theorem blk8_eq (d : Dev nD) (t : Fin cfg1.N) : blk8 V d t = V d (Proc.devRef .tc main_v19) := by
  refine funext fun y => congrArg (V d (Proc.devRef .tc main_v19)) (funext fun a => Fin.ext ?_)
  match a with
  | ⟨0, _⟩ =>
    show ((win1_8.blk t).view.emb y 0 : ℕ) = (y 0).val
    blk_simp [index8]
  | ⟨1, _⟩ =>
    show ((win1_8.blk t).view.emb y 1 : ℕ) = (y 1).val
    blk_simp [index8]

theorem index9 : ∀ t : Fin grid1.N, win1_9.index t = ![0, 0] := by decide +kernel

theorem blk9_eq (d : Dev nD) (t : Fin cfg1.N) : blk9 V d t = V d (Proc.devRef .tc main_arg8) := by
  refine funext fun y => congrArg (V d (Proc.devRef .tc main_arg8)) (funext fun a => Fin.ext ?_)
  match a with
  | ⟨0, _⟩ =>
    show ((win1_9.blk t).view.emb y 0 : ℕ) = (y 0).val
    blk_simp [index9]
  | ⟨1, _⟩ =>
    show ((win1_9.blk t).view.emb y 1 : ℕ) = (y 1).val
    blk_simp [index9]

theorem index10 : ∀ t : Fin grid1.N, win1_10.index t = ![0, 0] := by decide +kernel

theorem blk10_eq (d : Dev nD) (t : Fin cfg1.N) : blk10 V d t = V d (Proc.devRef .tc main_v20) := by
  refine funext fun y => congrArg (V d (Proc.devRef .tc main_v20)) (funext fun a => Fin.ext ?_)
  match a with
  | ⟨0, _⟩ =>
    show ((win1_10.blk t).view.emb y 0 : ℕ) = (y 0).val
    blk_simp [index10]
  | ⟨1, _⟩ =>
    show ((win1_10.blk t).view.emb y 1 : ℕ) = (y 1).val
    blk_simp [index10]

theorem index11 : ∀ t : Fin grid1.N, win1_11.index t = ![0, 0] := by decide +kernel

theorem blk11_eq (d : Dev nD) (t : Fin cfg1.N) : blk11 V d t = V d (Proc.devRef .tc main_v16) := by
  refine funext fun y => congrArg (V d (Proc.devRef .tc main_v16)) (funext fun a => Fin.ext ?_)
  match a with
  | ⟨0, _⟩ =>
    show ((win1_11.blk t).view.emb y 0 : ℕ) = (y 0).val
    blk_simp [index11]
  | ⟨1, _⟩ =>
    show ((win1_11.blk t).view.emb y 1 : ℕ) = (y 1).val
    blk_simp [index11]

theorem index12 : ∀ t : Fin grid1.N, win1_12.index t = ![0, 0] := by decide +kernel

theorem blk12_eq (d : Dev nD) (t : Fin cfg1.N) : blk12 V d t = V d (Proc.devRef .tc main_v18) := by
  refine funext fun y => congrArg (V d (Proc.devRef .tc main_v18)) (funext fun a => Fin.ext ?_)
  match a with
  | ⟨0, _⟩ =>
    show ((win1_12.blk t).view.emb y 0 : ℕ) = (y 0).val
    blk_simp [index12]
  | ⟨1, _⟩ =>
    show ((win1_12.blk t).view.emb y 1 : ℕ) = (y 1).val
    blk_simp [index12]

theorem index13 : ∀ t : Fin grid1.N, win1_13.index t = ![0, 0] := by decide +kernel

theorem blk13_eq (d : Dev nD) (t : Fin cfg1.N) : blk13 V d t = V d (Proc.devRef .tc main_v21) := by
  refine funext fun y => congrArg (V d (Proc.devRef .tc main_v21)) (funext fun a => Fin.ext ?_)
  match a with
  | ⟨0, _⟩ =>
    show ((win1_13.blk t).view.emb y 0 : ℕ) = (y 0).val
    blk_simp [index13]
  | ⟨1, _⟩ =>
    show ((win1_13.blk t).view.emb y 1 : ℕ) = (y 1).val
    blk_simp [index13]

end Blocks

/-! ## The TensorCore call's arrays -/

section Arrays

variable {F : FTy → Type} [FloatOps F] (m : (ℓ : Loc nD τ sig) → Buf (Elt F) ℓ)

/-- An argument is as it started up to the SparseCore call's end. -/
theorem V₂_arg (d : Dev nD) {r : Ref sig .tc} (hA : r ∉ hostAW) (h0 : r ≠ main_v12_0) (h1 : r ≠ main_v12_1) (h2 : r ≠ main_v12_2) (h3 : r ≠ main_v12_3) :
    V₂ m d (Proc.devRef .tc r) = m ((d.tc : Thread nD τ).loc r) := by
  rw [V₂_in m d h0 h1 h2 h3]
  exact hostA_keeps (fun b => m (d, b)) hA

theorem V₃_w0 (d : Dev nD) : V₃ m d (Proc.devRef .tc main_v12_0) = (callIns m d).w0 :=
  (hostB_keeps (V₂ m d) (r := main_v12_0) (by decide)).trans (V₂_w0 m d)

theorem V₃_w1 (d : Dev nD) : V₃ m d (Proc.devRef .tc main_v12_1) = (callIns m d).w1 :=
  (hostB_keeps (V₂ m d) (r := main_v12_1) (by decide)).trans (V₂_w1 m d)

theorem V₃_w2 (d : Dev nD) : V₃ m d (Proc.devRef .tc main_v12_2) = (callIns m d).w2 :=
  (hostB_keeps (V₂ m d) (r := main_v12_2) (by decide)).trans (V₂_w2 m d)

theorem V₃_w3 (d : Dev nD) : V₃ m d (Proc.devRef .tc main_v12_3) = (callIns m d).w3 :=
  (hostB_keeps (V₂ m d) (r := main_v12_3) (by decide)).trans (V₂_w3 m d)

theorem V₃_v6 (d : Dev nD) : V₃ m d (Proc.devRef .tc main_v6)
    = (shapeCast S16384x1 (andi (m ((d.tc : Thread nD τ).loc main_arg0) : (⟨S16384, .i32⟩ : BufTy).Contents (Elt F)) (broadcastInDim S16384 ![] bcast_S_S16384 (constantI S_ 32 1#32))) shapeCasts_S16384_S16384x1 : (⟨S16384x1, .i32⟩ : BufTy).Contents (Elt F)) := by
  refine (hostB_keeps (V₂ m d) (r := main_v6) (by decide)).trans ((V₂_in m d (r := main_v6) (by decide) (by decide) (by decide) (by decide)).trans ?_)
  unfold V₁ hostA
  after_results_simp <;> rfl

theorem V₃_v9 (d : Dev nD) : V₃ m d (Proc.devRef .tc main_v9)
    = (shapeCast S16384x1 (andi (m ((d.tc : Thread nD τ).loc main_arg1) : (⟨S16384, .i32⟩ : BufTy).Contents (Elt F)) (broadcastInDim S16384 ![] bcast_S_S16384 (constantI S_ 32 1#32))) shapeCasts_S16384_S16384x1 : (⟨S16384x1, .i32⟩ : BufTy).Contents (Elt F)) := by
  refine (hostB_keeps (V₂ m d) (r := main_v9) (by decide)).trans ((V₂_in m d (r := main_v9) (by decide) (by decide) (by decide) (by decide)).trans ?_)
  unfold V₁ hostA
  after_results_simp <;> rfl

theorem V₁_v10 (d : Dev nD) : V₁ m d (Proc.devRef .tc main_v10)
    = (shapeCast S50000x128 (m ((d.tc : Thread nD τ).loc main_arg2) : (⟨S100000x64, .f32⟩ : BufTy).Contents (Elt F)) shapeCasts_S100000x64_S50000x128 : (⟨S50000x128, .f32⟩ : BufTy).Contents (Elt F)) := by
  unfold V₁ hostA
  after_results_simp <;> rfl

theorem V₁_v11 (d : Dev nD) : V₁ m d (Proc.devRef .tc main_v11)
    = (shapeCast S50000x128 (m ((d.tc : Thread nD τ).loc main_arg3) : (⟨S100000x64, .f32⟩ : BufTy).Contents (Elt F)) shapeCasts_S100000x64_S50000x128 : (⟨S50000x128, .f32⟩ : BufTy).Contents (Elt F)) := by
  unfold V₁ hostA
  after_results_simp <;> rfl

theorem V₃_v13 (d : Dev nD) : V₃ m d (Proc.devRef .tc main_v13) = ((extractStridedSlice S128x128 ![0, 0] (m ((d.tc : Thread nD τ).loc main_arg6) : (⟨S256x128, .f32⟩ : BufTy).Contents (Elt F)) slices_S256x128_S128x128_0_0) : (⟨S128x128, .f32⟩ : BufTy).Contents (Elt F)) := by
  rw [← V₂_arg m d (r := main_arg6) (by decide) (by decide) (by decide) (by decide) (by decide)]
  unfold V₃ hostB
  after_results_simp <;> rfl

theorem V₃_v14 (d : Dev nD) : V₃ m d (Proc.devRef .tc main_v14) = ((extractStridedSlice S128x128 ![128, 0] (m ((d.tc : Thread nD τ).loc main_arg6) : (⟨S256x128, .f32⟩ : BufTy).Contents (Elt F)) slices_S256x128_S128x128_128_0) : (⟨S128x128, .f32⟩ : BufTy).Contents (Elt F)) := by
  rw [← V₂_arg m d (r := main_arg6) (by decide) (by decide) (by decide) (by decide) (by decide)]
  unfold V₃ hostB
  after_results_simp <;> rfl

theorem V₃_v16 (d : Dev nD) : V₃ m d (Proc.devRef .tc main_v16) = ((shapeCast S1x64 (extractStridedSlice S64x1 ![0, 0] (m ((d.tc : Thread nD τ).loc main_arg10) : (⟨S128x1, .f32⟩ : BufTy).Contents (Elt F)) slices_S128x1_S64x1_0_0) shapeCasts_S64x1_S1x64) : (⟨S1x64, .f32⟩ : BufTy).Contents (Elt F)) := by
  rw [← V₂_arg m d (r := main_arg10) (by decide) (by decide) (by decide) (by decide) (by decide)]
  unfold V₃ hostB
  after_results_simp <;> rfl

theorem V₃_v18 (d : Dev nD) : V₃ m d (Proc.devRef .tc main_v18) = ((shapeCast S1x64 (extractStridedSlice S64x1 ![64, 0] (m ((d.tc : Thread nD τ).loc main_arg10) : (⟨S128x1, .f32⟩ : BufTy).Contents (Elt F)) slices_S128x1_S64x1_64_0) shapeCasts_S64x1_S1x64) : (⟨S1x64, .f32⟩ : BufTy).Contents (Elt F)) := by
  rw [← V₂_arg m d (r := main_arg10) (by decide) (by decide) (by decide) (by decide) (by decide)]
  unfold V₃ hostB
  after_results_simp <;> rfl

theorem V₃_v19 (d : Dev nD) : V₃ m d (Proc.devRef .tc main_v19) = ((shapeCast S1x128 (m ((d.tc : Thread nD τ).loc main_arg7) : (⟨S128, .f32⟩ : BufTy).Contents (Elt F)) shapeCasts_S128_S1x128) : (⟨S1x128, .f32⟩ : BufTy).Contents (Elt F)) := by
  rw [← V₂_arg m d (r := main_arg7) (by decide) (by decide) (by decide) (by decide) (by decide)]
  unfold V₃ hostB
  after_results_simp <;> rfl

theorem V₃_v20 (d : Dev nD) : V₃ m d (Proc.devRef .tc main_v20) = ((shapeCast S1x64 (m ((d.tc : Thread nD τ).loc main_arg9) : (⟨S64, .f32⟩ : BufTy).Contents (Elt F)) shapeCasts_S64_S1x64) : (⟨S1x64, .f32⟩ : BufTy).Contents (Elt F)) := by
  rw [← V₂_arg m d (r := main_arg9) (by decide) (by decide) (by decide) (by decide) (by decide)]
  unfold V₃ hostB
  after_results_simp <;> rfl

theorem V₃_v21 (d : Dev nD) : V₃ m d (Proc.devRef .tc main_v21) = ((shapeCast S1x1 (m ((d.tc : Thread nD τ).loc main_arg11) : (⟨S1, .f32⟩ : BufTy).Contents (Elt F)) shapeCasts_S1_S1x1) : (⟨S1x1, .f32⟩ : BufTy).Contents (Elt F)) := by
  rw [← V₂_arg m d (r := main_arg11) (by decide) (by decide) (by decide) (by decide) (by decide)]
  unfold V₃ hostB
  after_results_simp <;> rfl

theorem V₃_arg8 (d : Dev nD) : V₃ m d (Proc.devRef .tc main_arg8) = m ((d.tc : Thread nD τ).loc main_arg8) :=
  (hostB_keeps (V₂ m d) (r := main_arg8) (by decide)).trans (V₂_arg m d (by decide) (by decide) (by decide) (by decide) (by decide))

theorem V₄_v23 (d : Dev nD) : V₄ m d (Proc.devRef .tc main_v23)
    = (shapeCast S16384 (res (V₃ m) d) shapeCasts_S16384x1_S16384 : (⟨S16384, .f32⟩ : BufTy).Contents (Elt F)) := by
  have e : leave (V₃ m) d (Proc.devRef .tc main_v22) = res (V₃ m) d := Function.update_self (Proc.devRef (τ := τ) .tc main_v22) _ _
  rw [← e]
  unfold V₄ hostC
  after_results_simp <;> rfl

end Arrays

/-! ## A row of the result -/

section Row

/-- The two halves of row `n / 2` of a table read as rows of 128 are its rows `n` with `n` even and odd. -/
theorem pair_row (t : FVec Ideal S100000x64 .f32) (q : Fin 50000) (j : Fin 128) :
    shapeCast S50000x128 t shapeCasts_S100000x64_S50000x128 (ix2 q j) = t (ix2 ⟨q.val * 2 + j.val / 64, by omega⟩ ⟨j.val % 64, by omega⟩) := by
  pointwise

theorem parity (w : BitVec 32) : IntOp.cmpi .eq (IntOp.andi w 1#32) 0#32 = if w.toNat % 2 = 0 then 1#1 else 0#1 := by
  have e : (IntOp.andi w 1#32).toNat = w.toNat % 2 := by simp [IntOp.andi, BitVec.toNat_and, Nat.and_one_is_mod]
  split
  · exact IntOp.cmpi_eq.mpr (BitVec.eq_of_toNat_eq (by rw [e]; simpa))
  · refine ValueIdx.eq_zero_of_ne_one fun h => ?_
    have := congrArg BitVec.toNat (IntOp.cmpi_eq.mp h)
    rw [e] at this
    simp at this
    omega

/-- The half that a row number's last bit names, of the row its other bits name, is the row it names of the table of 64. -/
theorem half_row (t : FVec Ideal S100000x64 .f32) (w : BitVec 32) (hw : w.toNat < 100000) (k : Fin 64) :
    half (IntOp.andi w 1#32) (fun j => wrow (z := 50000) (shapeCast S50000x128 t shapeCasts_S100000x64_S50000x128) (w.toNat / 2) j) k
      = t (ix2 ⟨w.toNat, hw⟩ k) := by
  unfold half wrow
  dsimp only
  rw [parity, pair_row, pair_row]
  have hq : (Fin.ofNat 50000 (w.toNat / 2)).val = w.toNat / 2 := Nat.mod_eq_of_lt (by omega)
  split
  · rw [ValueIdx.select_one]
    congr 2 <;> refine Fin.ext ?_ <;> simp only [hq] <;> omega
  · rw [ValueIdx.select_zero]
    congr 2 <;> refine Fin.ext ?_ <;> simp only [hq] <;> omega

variable (m : (ℓ : Loc nD τ sig) → Buf (Elt Ideal) ℓ)

theorem headAt_apply (V : Dev nD → Valuation τ sig (Elt Ideal)) (d : Dev nD) (t : Fin cfg1.N) (p : Fin 2048) (r : Fin 16384) (hr : r.val = t.val * 2048 + p.val) :
    headAt V d t (ix2 p 0)
      = score (half (V d (Proc.devRef .tc main_v6) (ix2 r 0)) fun k => V d (Proc.devRef .tc main_v12_0) (ix2 r k))
          (half (V d (Proc.devRef .tc main_v9) (ix2 r 0)) fun k => V d (Proc.devRef .tc main_v12_1) (ix2 r k))
          (fun k => V d (Proc.devRef .tc main_v12_2) (ix2 r k)) (fun k => V d (Proc.devRef .tc main_v12_3) (ix2 r k))
          (fun z y => V d (Proc.devRef .tc main_v13) (ix2 z y)) (fun z y => V d (Proc.devRef .tc main_v14) (ix2 z y))
          (fun y => V d (Proc.devRef .tc main_v19) (ix2 0 y)) (fun y x => V d (Proc.devRef .tc main_arg8) (ix2 y x))
          (fun x => V d (Proc.devRef .tc main_v20) (ix2 0 x)) (fun x => V d (Proc.devRef .tc main_v16) (ix2 0 x))
          (fun x => V d (Proc.devRef .tc main_v18) (ix2 0 x)) (V d (Proc.devRef .tc main_v21) (ix2 0 0)) := by
  unfold headAt
  rw [head_apply]
  simp only [blk0_apply V d t p _ r hr, blk1_apply V d t p _ r hr, blk2_apply V d t p _ r hr, blk3_apply V d t p _ r hr, blk4_apply V d t p _ r hr,
    blk5_apply V d t p _ r hr, blk6_eq, blk7_eq, blk8_eq, blk9_eq, blk10_eq, blk11_eq, blk12_eq, blk13_eq]

theorem V₄_apply (d : Dev nD) (hd : IdsOk (F := Ideal) (m ((d.tc : Thread nD τ).loc main_arg0)) (m ((d.tc : Thread nD τ).loc main_arg1))) (r : Fin 16384) :
    V₄ m d (Proc.devRef .tc main_v23) (ix1 r)
      = rowScore (m ((d.tc : Thread nD τ).loc main_arg0)) (m ((d.tc : Thread nD τ).loc main_arg1)) (m ((d.tc : Thread nD τ).loc main_arg2)) (m ((d.tc : Thread nD τ).loc main_arg3))
          (m ((d.tc : Thread nD τ).loc main_arg4)) (m ((d.tc : Thread nD τ).loc main_arg5)) (m ((d.tc : Thread nD τ).loc main_arg6)) (m ((d.tc : Thread nD τ).loc main_arg7))
          (m ((d.tc : Thread nD τ).loc main_arg8)) (m ((d.tc : Thread nD τ).loc main_arg9)) (m ((d.tc : Thread nD τ).loc main_arg10)) (m ((d.tc : Thread nD τ).loc main_arg11))
          r (hd (ix1 r)).1 (hd (ix1 r)).2 := by
  obtain ⟨hu, hv⟩ := hd (ix1 r)
  have hC : shapeCast S16384 (res (V₃ m) d) shapeCasts_S16384x1_S16384 (ix1 r) = res (V₃ m) d (ix2 r 0) := by pointwise
  rw [V₄_v23]
  refine hC.trans ((headAt_apply (V₃ m) d _ _ r (by show r.val = r.val / 2048 * 2048 + r.val % 2048; omega)).trans ?_)
  have e6 : V₃ m d (Proc.devRef .tc main_v6) (ix2 r 0) = IntOp.andi (m ((d.tc : Thread nD τ).loc main_arg0) (ix1 r)) 1#32 := by rw [V₃_v6]; pointwise
  have e9 : V₃ m d (Proc.devRef .tc main_v9) (ix2 r 0) = IntOp.andi (m ((d.tc : Thread nD τ).loc main_arg1) (ix1 r)) 1#32 := by rw [V₃_v9]; pointwise
  have n1 : BitVec.toNat ((callIns m d).x0 (ix1 r)) = BitVec.toNat (m ((d.tc : Thread nD τ).loc main_arg0) (ix1 r)) / 2 := by
    show BitVec.toNat (V₁ m d (Proc.devRef .tc main_v1) (ix1 r)) = _
    rw [V₁_v1]; exact toNat_half _ _
  have n3 : BitVec.toNat ((callIns m d).x1 (ix1 r)) = BitVec.toNat (m ((d.tc : Thread nD τ).loc main_arg1) (ix1 r)) / 2 := by
    show BitVec.toNat (V₁ m d (Proc.devRef .tc main_v3) (ix1 r)) = _
    rw [V₁_v3]; exact toNat_half _ _
  have w0 : (fun k => V₃ m d (Proc.devRef .tc main_v12_0) (ix2 r k)) = fun k => wrow (z := 50000) (shapeCast S50000x128 (m ((d.tc : Thread nD τ).loc main_arg2)) shapeCasts_S100000x64_S50000x128) (BitVec.toNat (m ((d.tc : Thread nD τ).loc main_arg0) (ix1 r)) / 2) k := by
    funext k
    rw [V₃_w0, ← n1, ← V₁_v10]
    rfl
  have w1 : (fun k => V₃ m d (Proc.devRef .tc main_v12_1) (ix2 r k)) = fun k => wrow (z := 50000) (shapeCast S50000x128 (m ((d.tc : Thread nD τ).loc main_arg3)) shapeCasts_S100000x64_S50000x128) (BitVec.toNat (m ((d.tc : Thread nD τ).loc main_arg1) (ix1 r)) / 2) k := by
    funext k
    rw [V₃_w1, ← n3, ← V₁_v11]
    rfl
  have i2 : (callIns m d).x2 = m ((d.tc : Thread nD τ).loc main_arg0) := hostA_keeps (r := main_arg0) (fun b => m (d, b)) (by decide)
  have i3 : (callIns m d).x3 = m ((d.tc : Thread nD τ).loc main_arg1) := hostA_keeps (r := main_arg1) (fun b => m (d, b)) (by decide)
  have t2 : (callIns m d).t2 = m ((d.tc : Thread nD τ).loc main_arg4) := hostA_keeps (r := main_arg4) (fun b => m (d, b)) (by decide)
  have t3 : (callIns m d).t3 = m ((d.tc : Thread nD τ).loc main_arg5) := hostA_keeps (r := main_arg5) (fun b => m (d, b)) (by decide)
  have w2 : ∀ k, V₃ m d (Proc.devRef .tc main_v12_2) (ix2 r k) = m ((d.tc : Thread nD τ).loc main_arg4) (ix2 ⟨BitVec.toNat (m ((d.tc : Thread nD τ).loc main_arg0) (ix1 r)), hu⟩ k) := fun k => by
    rw [V₃_w2]
    unfold Ins.w2
    rw [i2, t2]
    exact congrArg (fun n => m ((d.tc : Thread nD τ).loc main_arg4) (ix2 n k)) (Fin.ext (Nat.mod_eq_of_lt hu))
  have w3 : ∀ k, V₃ m d (Proc.devRef .tc main_v12_3) (ix2 r k) = m ((d.tc : Thread nD τ).loc main_arg5) (ix2 ⟨BitVec.toNat (m ((d.tc : Thread nD τ).loc main_arg1) (ix1 r)), hv⟩ k) := fun k => by
    rw [V₃_w3]
    unfold Ins.w3
    rw [i3, t3]
    exact congrArg (fun n => m ((d.tc : Thread nD τ).loc main_arg5) (ix2 n k)) (Fin.ext (Nat.mod_eq_of_lt hv))
  have hA := funext (half_row (m ((d.tc : Thread nD τ).loc main_arg2)) _ hu)
  have hB := funext (half_row (m ((d.tc : Thread nD τ).loc main_arg3)) _ hv)
  have e13 : ∀ z y, V₃ m d (Proc.devRef .tc main_v13) (ix2 z y) = m ((d.tc : Thread nD τ).loc main_arg6) (ix2 ⟨z.val, by omega⟩ y) := fun z y => by rw [V₃_v13]; pointwise
  have e14 : ∀ z y, V₃ m d (Proc.devRef .tc main_v14) (ix2 z y) = m ((d.tc : Thread nD τ).loc main_arg6) (ix2 ⟨128 + z.val, by omega⟩ y) := fun z y => by rw [V₃_v14]; pointwise
  have e16 : ∀ x, V₃ m d (Proc.devRef .tc main_v16) (ix2 0 x) = m ((d.tc : Thread nD τ).loc main_arg10) (ix2 ⟨x.val, by omega⟩ 0) := fun x => by rw [V₃_v16]; pointwise
  have e18 : ∀ x, V₃ m d (Proc.devRef .tc main_v18) (ix2 0 x) = m ((d.tc : Thread nD τ).loc main_arg10) (ix2 ⟨64 + x.val, by omega⟩ 0) := fun x => by rw [V₃_v18]; pointwise
  have e19 : ∀ y, V₃ m d (Proc.devRef .tc main_v19) (ix2 0 y) = m ((d.tc : Thread nD τ).loc main_arg7) (ix1 y) := fun y => by rw [V₃_v19]; pointwise
  have e20 : ∀ y, V₃ m d (Proc.devRef .tc main_v20) (ix2 0 y) = m ((d.tc : Thread nD τ).loc main_arg9) (ix1 y) := fun y => by rw [V₃_v20]; pointwise
  have e21 : V₃ m d (Proc.devRef .tc main_v21) (ix2 0 0) = m ((d.tc : Thread nD τ).loc main_arg11) (ix1 0) := by rw [V₃_v21]; pointwise
  have e8 : ∀ y x, V₃ m d (Proc.devRef .tc main_arg8) (ix2 y x) = m ((d.tc : Thread nD τ).loc main_arg8) (ix2 y x) := fun y x => by rw [V₃_arg8]
  unfold rowScore
  rw [e6, e9, w0, w1, hA, hB, e21]
  simp only [w2, w3, e13, e14, e16, e18, e19, e20, e8]

end Row

end Cert.Proof

end
-- ==== Proof.lean ====
/-
  THE CERTIFICATE: the frames of the kernel at both readings and of the reference, the idealisation (no operation replaced),
  and the two programs' results equal over the reals, from memories whose row numbers lie in the tables.
-/
module

public import proofs.«01_k».proof.Defs
public import proofs.«01_k».proof.Proof.Values
public import proofs.«01_k».proof.Proof.Gen.Kernel
public import proofs.«01_k».proof.Proof.Gen.KernelIdeal
public import proofs.«01_k».proof.Proof.Gen.ReferenceIdeal
public import proofs.«01_k».proof.Proof.Gen.Pre_ids_in_tables

@[expose] public section

noncomputable section

namespace Cert.Proof

open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The results agree row by row. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hd : IdsOk (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    : Cert.ReferenceIdeal.Value.res_out0 (F := Ideal) m' c = V₄ m c (Proc.devRef .tc Cert.KernelIdeal.main_v23) := by
  have hu : ∀ y, BitVec.toNat ((m' ((c.tc : Thread Cert.ReferenceIdeal.nD Cert.ReferenceIdeal.τ).loc Cert.ReferenceIdeal.main_arg0) : IVec Cert.ReferenceIdeal.S16384 32) y) < 100000 := fun y => by
    rw [h0]; exact (hd y).1
  have hv : ∀ y, BitVec.toNat ((m' ((c.tc : Thread Cert.ReferenceIdeal.nD Cert.ReferenceIdeal.τ).loc Cert.ReferenceIdeal.main_arg1) : IVec Cert.ReferenceIdeal.S16384 32) y) < 100000 := fun y => by
    rw [h1]; exact (hd y).2
  funext j
  obtain ⟨r, rfl⟩ : ∃ r : Fin 16384, j = ix1 r := ⟨j 0, funext fun a => match a with | ⟨0, _⟩ => rfl⟩
  refine (result_apply m' c hu hv r).trans (Eq.trans ?_ (V₄_apply m c hd r).symm)
  simp only [h0, h1, h2, h3, h4, h5, h6, h7, h8, h9, h10, h11]

theorem algebraic : Cert.algebraic_KernelIdeal_ReferenceIdeal := fun m g m' g' hpre hargs =>
  have ids := fun d => ids_of_pre (hpre d)
  ⟨fun c => V₄ m c (Proc.devRef .tc Cert.KernelIdeal.main_v23),
    (θ_run _ _ _).mono (fun _ h => h.1) (run_args (F := Ideal) m g ids),
    (θ_run Cert.ReferenceIdeal.defs _ _).mono (fun _ h c => ⟨(h c).1.trans (by
      obtain ⟨h0, h1, h2, h3, h4, h5, h6, h7, h8, h9, h10, h11⟩ := hargs c
      exact results_eq m m' c (ids c) h0 h1 h2 h3 h4 h5 h6 h7 h8 h9 h10 h11), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Pre_ids_in_tables.Gen.facts,
    frame_kernel, frame_kernelIdeal, frame_reference, trivial, algebraic⟩

end Cert.Proof

end
